-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_atoms_counted [hPre_atoms_counted : Cert.Pre_atoms_counted.Facts] (m : (ℓ : Loc Cert.KernelIdeal.nD Cert.KernelIdeal.τ Cert.KernelIdeal.sig) → Buf (Elt Ideal) ℓ) : Prop :=
  ∀ c : Dev Cert.KernelIdeal.nD,
    (Cert.Pre_atoms_counted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_atoms_counted [hPre_atoms_counted : Cert.Pre_atoms_counted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_atoms_counted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_atoms_counted [hKernelIdeal : Cert.KernelIdeal.Facts] [hPre_atoms_counted : Cert.Pre_atoms_counted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_atoms_counted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_atoms_counted [hReferenceIdeal : Cert.ReferenceIdeal.Facts] [hPre_atoms_counted : Cert.Pre_atoms_counted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_atoms_counted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_atoms_counted [hKernelIdeal : Cert.KernelIdeal.Facts] [hReferenceIdeal : Cert.ReferenceIdeal.Facts] [hPre_atoms_counted : Cert.Pre_atoms_counted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_atoms_counted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_atoms_counted : Cert.Pre_atoms_counted.Facts),
    quiescent_Kernel (hKernel := hKernel)
    ∧ quiescent_KernelIdeal (hKernelIdeal := hKernelIdeal)
    ∧ quiescent_KernelIdeal_pre_atoms_counted (hKernelIdeal := hKernelIdeal) (hPre_atoms_counted := hPre_atoms_counted)
    ∧ quiescent_ReferenceIdeal (hReferenceIdeal := hReferenceIdeal)
    ∧ quiescent_ReferenceIdeal_pre_atoms_counted (hReferenceIdeal := hReferenceIdeal) (hPre_atoms_counted := hPre_atoms_counted)
    ∧ preserves_Kernel_KernelIdeal
    ∧ algebraic_KernelIdeal_ReferenceIdeal_pre_atoms_counted (hKernelIdeal := hKernelIdeal) (hReferenceIdeal := hReferenceIdeal) (hPre_atoms_counted := hPre_atoms_counted)
-- ==== Pre_atoms_counted.lean ====
abbrev S50000x9x128 : Shape := ⟨3, ![50000, 9, 128]⟩
abbrev S50000 : Shape := ⟨1, ![50000]⟩
abbrev S500 : Shape := ⟨1, ![500]⟩
abbrev S128x128 : Shape := ⟨2, ![128, 128]⟩
abbrev S128 : Shape := ⟨1, ![128]⟩
abbrev S1x128 : Shape := ⟨2, ![1, 128]⟩
abbrev S1 : Shape := ⟨1, ![1]⟩
abbrev S3x1x128 : Shape := ⟨3, ![3, 1, 128]⟩
abbrev S_ : Shape := ⟨0, ![]⟩
abbrev S50000x1 : Shape := ⟨2, ![50000, 1]⟩

class Facts : Prop where
  bcast_S_S50000 : S_.BroadcastsInDim S50000 (![] : Fin 0 → Fin S50000.rank)
  bcast_S_S500 : S_.BroadcastsInDim S500 (![] : Fin 0 → Fin S500.rank)
  bcast_S50000_S50000x1_0 : S50000.BroadcastsInDim S50000x1 (![0] : Fin 1 → Fin S50000x1.rank)
  scatter_S500_S50000x1_S50000_n_0_0_1_wf : ScatterDims.WF S500 S50000x1 S50000 [] [0] [0] 1

variable [Facts]

def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def fn {F : FTy → Type} [FloatOps F] (main_arg0 : FVec F S50000x9x128 .f32) (main_arg1 : IVec S50000 32) (main_arg2 : IVec S500 32) (main_arg3 : FVec F S128x128 .f32) (main_arg4 : FVec F S128 .f32) (main_arg5 : FVec F S128x128 .f32) (main_arg6 : FVec F S128 .f32) (main_arg7 : FVec F S1x128 .f32) (main_arg8 : FVec F S1 .f32) (main_arg9 : FVec F S3x1x128 .f32) (main_arg10 : FVec F S1 .f32) : IVec S500 1 :=
  let main_c : IVec S_ 32 := constantI S_ 32 1#32
  let main_v0 : IVec S50000 32 := broadcastInDim S50000 ![] bcast_S_S50000 main_c
  let main_c_0 : IVec S_ 32 := constantI S_ 32 0#32
  let main_v1 : IVec S500 32 := broadcastInDim S500 ![] bcast_S_S500 main_c_0
  let main_v2 : IVec S50000x1 32 := broadcastInDim S50000x1 ![0] bcast_S50000_S50000x1_0 main_arg1
  let main_v3 : IVec S500 32 := (fun x i u => Host.scatter scatter_S500_S50000x1_S50000_n_0_0_1 IntOp.addi x i u) main_v1 main_v2 main_v0
  let main_v4 : IVec S500 1 := cmpi .eq main_arg2 main_v3
  let main_c_1 : IVec S_ 32 := constantI S_ 32 1#32
  let main_v5 : IVec S500 32 := broadcastInDim S500 ![] bcast_S_S500 main_c_1
  let main_v6 : IVec S500 1 := cmpi .sge main_arg2 main_v5
  let main_v7 : IVec S500 1 := andi main_v4 main_v6
  main_v7
-- ==== Kernel.lean ====
abbrev S50000x9x128 : Shape := ⟨3, ![50000, 9, 128]⟩
abbrev S50000 : Shape := ⟨1, ![50000]⟩
abbrev S500 : Shape := ⟨1, ![500]⟩
abbrev S128x128 : Shape := ⟨2, ![128, 128]⟩
abbrev S128 : Shape := ⟨1, ![128]⟩
abbrev S1x128 : Shape := ⟨2, ![1, 128]⟩
abbrev S1 : Shape := ⟨1, ![1]⟩
abbrev S3x1x128 : Shape := ⟨3, ![3, 1, 128]⟩
abbrev S98x512 : Shape := ⟨2, ![98, 512]⟩
abbrev S8x128 : Shape := ⟨2, ![8, 128]⟩
abbrev S_ : Shape := ⟨0, ![]⟩
abbrev S98x512x1 : Shape := ⟨3, ![98, 512, 1]⟩
abbrev S98x1x512 : Shape := ⟨3, ![98, 1, 512]⟩
abbrev S1x1x128 : Shape := ⟨3, ![1, 1, 128]⟩
abbrev S512 : Shape := ⟨1, ![512]⟩
abbrev S512x1 : Shape := ⟨2, ![512, 1]⟩
abbrev S512x8 : Shape := ⟨2, ![512, 8]⟩
abbrev S1x8 : Shape := ⟨2, ![1, 8]⟩
abbrev S2 : Shape := ⟨1, ![2]⟩
abbrev S512x128 : Shape := ⟨2, ![512, 128]⟩
abbrev S1x1x512 : Shape := ⟨3, ![1, 1, 512]⟩
abbrev S2x6x512x128 : Shape := ⟨4, ![2, 6, 512, 128]⟩
abbrev S2x6 : Shape := ⟨2, ![2, 6]⟩
abbrev S1x1 : Shape := ⟨2, ![1, 1]⟩
abbrev S1x1x512x128 : Shape := ⟨4, ![1, 1, 512, 128]⟩
abbrev S512x1x128 : Shape := ⟨3, ![512, 1, 128]⟩
abbrev S512x2 : Shape := ⟨2, ![512, 2]⟩
abbrev S1x512 : Shape := ⟨2, ![1, 512]⟩
abbrev S512x512 : Shape := ⟨2, ![512, 512]⟩
abbrev S500x9 : Shape := ⟨2, ![500, 9]⟩
abbrev S500x3x3 : Shape := ⟨3, ![500, 3, 3]⟩

abbrev nBuf : Space → Nat
  | .hbm => 50
  | .vmem => 14
  | .smem => 0
  | _ => 0

abbrev bufTy : (tb : Table) → Fin (tcTables nBuf tb) → BufTy
  | .hbm, ⟨0, _⟩ => ⟨S50000x9x128, .f32⟩
  | .hbm, ⟨1, _⟩ => ⟨S50000, .i32⟩
  | .hbm, ⟨2, _⟩ => ⟨S500, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x128, .f32⟩
  | .hbm, ⟨8, _⟩ => ⟨S1, .f32⟩
  | .hbm, ⟨9, _⟩ => ⟨S3x1x128, .f32⟩
  | .hbm, ⟨10, _⟩ => ⟨S1, .f32⟩
  | .hbm, ⟨11, _⟩ => ⟨S98x512, .i32⟩
  | .hbm, ⟨12, _⟩ => ⟨S8x128, .f32⟩
  | .hbm, ⟨13, _⟩ => ⟨S_, .i32⟩
  | .hbm, ⟨14, _⟩ => ⟨S98x512, .i32⟩
  | .hbm, ⟨15, _⟩ => ⟨S98x512, .i1⟩
  | .hbm, ⟨16, _⟩ => ⟨S_, .i32⟩
  | .hbm, ⟨17, _⟩ => ⟨S98x512, .i32⟩
  | .hbm, ⟨18, _⟩ => ⟨S98x512, .i32⟩
  | .hbm, ⟨19, _⟩ => ⟨S98x512, .i32⟩
  | .hbm, ⟨20, _⟩ => ⟨S98x512x1, .i32⟩
  | .hbm, ⟨21, _⟩ => ⟨S98x512, .i32⟩
  | .hbm, ⟨22, _⟩ => ⟨S98x1x512, .i32⟩
  | .hbm, ⟨23, _⟩ => ⟨S128x128, .f32⟩
  | .hbm, ⟨24, _⟩ => ⟨S128x128, .f32⟩
  | .hbm, ⟨25, _⟩ => ⟨S1x128, .f32⟩
  | .hbm, ⟨26, _⟩ => ⟨S1x128, .f32⟩
  | .hbm, ⟨27, _⟩ => ⟨S1x1x128, .f32⟩
  | .hbm, ⟨28, _⟩ => ⟨S1x128, .f32⟩
  | .hbm, ⟨29, _⟩ => ⟨S500, .f32⟩
  | .hbm, ⟨30, _⟩ => ⟨S_, .f32⟩
  | .hbm, ⟨31, _⟩ => ⟨S500, .f32⟩
  | .hbm, ⟨32, _⟩ => ⟨S500, .f32⟩
  | .hbm, ⟨33, _⟩ => ⟨S_, .f32⟩
  | .hbm, ⟨34, _⟩ => ⟨S_, .f32⟩
  | .hbm, ⟨35, _⟩ => ⟨S512, .f32⟩
  | .hbm, ⟨36, _⟩ => ⟨S512x1, .f32⟩
  | .hbm, ⟨37, _⟩ => ⟨S512x8, .f32⟩
  | .hbm, ⟨38, _⟩ => ⟨S_, .f32⟩
  | .hbm, ⟨39, _⟩ => ⟨S1x8, .f32⟩
  | .hbm, ⟨40, _⟩ => ⟨S_, .f32⟩
  | .hbm, ⟨41, _⟩ => ⟨S_, .i32⟩
  | .hbm, ⟨42, _⟩ => ⟨S1, .i32⟩
  | .hbm, ⟨43, _⟩ => ⟨S_, .i32⟩
  | .hbm, ⟨44, _⟩ => ⟨S1, .i32⟩
  | .hbm, ⟨45, _⟩ => ⟨S2, .i32⟩
  | .hbm, ⟨46, _⟩ => ⟨S1x8, .f32⟩
  | .hbm, ⟨47, _⟩ => ⟨S512x128, .f32⟩
  | .hbm, ⟨48, _⟩ => ⟨S500x9, .f32⟩
  | .hbm, ⟨49, _⟩ => ⟨S500x3x3, .f32⟩
  | .local _ .vmem, ⟨0, _⟩ => ⟨S1x1x512, .i32⟩
  | .local _ .vmem, ⟨1, _⟩ => ⟨S1x1x512, .i32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S512x8, .f32⟩
  | .local _ .vmem, ⟨9, _⟩ => ⟨S1x8, .f32⟩
  | .local _ .vmem, ⟨10, _⟩ => ⟨S8x128, .f32⟩
  | .local _ .vmem, ⟨11, _⟩ => ⟨S512x128, .f32⟩
  | .local _ .vmem, ⟨12, _⟩ => ⟨S2x6x512x128, .f32⟩
  | .local _ .vmem, ⟨13, _⟩ => ⟨S512x8, .f32⟩
  | _, _ => ⟨S50000x9x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_cst : Ref sig .tc := ⟨.hbm, 12, rfl⟩
abbrev main_c_0 : Ref sig .tc := ⟨.hbm, 13, rfl⟩
abbrev main_v0 : Ref sig .tc := ⟨.hbm, 14, rfl⟩
abbrev main_v1 : Ref sig .tc := ⟨.hbm, 15, rfl⟩
abbrev main_c_1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_call0_v0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_scratch0 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11

abbrev nD : Nat := 1
abbrev τ : Topo := Topo.v7x

variable {F : FTy → Type} [FloatOps F]

abbrev grid0 : Pipeline.Grid := ⟨1, ![98], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 : Fin 3 → Nat :=
  let c0_i32_96 : BitVec 32 := 0#32
  let c49488_i32_97 : BitVec 32 := 49488#32
  let v179 : BitVec 32 := Scalar.minsi c0_i32_96 c49488_i32_97
  let c0_i32_98 : BitVec 32 := 0#32
  let c0_i32_105 : BitVec 32 := 0#32
  ![v179.toNat, 0, 0]
def k0_off2 : Fin 3 → Nat :=
  let c0_i32_106 : BitVec 32 := 0#32
  let c49488_i32_107 : BitVec 32 := 49488#32
  let v186 : BitVec 32 := Scalar.minsi c0_i32_106 c49488_i32_107
  let c4_i32_108 : BitVec 32 := 4#32
  let c0_i32_115 : BitVec 32 := 0#32
  ![v186.toNat, 4, 0]
def k0_off3 : Fin 3 → Nat :=
  let c0_i32_116 : BitVec 32 := 0#32
  let c49488_i32_117 : BitVec 32 := 49488#32
  let v193 : BitVec 32 := Scalar.minsi c0_i32_116 c49488_i32_117
  let c5_i32_118 : BitVec 32 := 5#32
  let c0_i32_125 : BitVec 32 := 0#32
  ![v193.toNat, 5, 0]
def k0_off4 : Fin 3 → Nat :=
  let c0_i32_126 : BitVec 32 := 0#32
  let c49488_i32_127 : BitVec 32 := 49488#32
  let v200 : BitVec 32 := Scalar.minsi c0_i32_126 c49488_i32_127
  let c6_i32_128 : BitVec 32 := 6#32
  let c0_i32_135 : BitVec 32 := 0#32
  ![v200.toNat, 6, 0]
def k0_off5 : Fin 3 → Nat :=
  let c0_i32_136 : BitVec 32 := 0#32
  let c49488_i32_137 : BitVec 32 := 49488#32
  let v207 : BitVec 32 := Scalar.minsi c0_i32_136 c49488_i32_137
  let c7_i32_138 : BitVec 32 := 7#32
  let c0_i32_145 : BitVec 32 := 0#32
  ![v207.toNat, 7, 0]
def k0_off6 : Fin 3 → Nat :=
  let c0_i32_146 : BitVec 32 := 0#32
  let c49488_i32_147 : BitVec 32 := 49488#32
  let v214 : BitVec 32 := Scalar.minsi c0_i32_146 c49488_i32_147
  let c8_i32_148 : BitVec 32 := 8#32
  let c0_i32_155 : BitVec 32 := 0#32
  ![v214.toNat, 8, 0]
def k0_cond2 (i : grid0.Coords) : BitVec 1 :=
  let arg0 : BitVec 32 := BitVec.ofNat 32 (i 0).val
  let c1_i32 : BitVec 32 := 1#32
  let v4 : BitVec 32 := Scalar.addi arg0 c1_i32
  let c98_i32 : BitVec 32 := 98#32
  let v5 : BitVec 1 := Scalar.cmpi .slt v4 c98_i32
  let v6 : BitVec 32 := Scalar.extui v5
  let c0_i32_1 : BitVec 32 := 0#32
  let v7 : BitVec 1 := Scalar.cmpi .ne v6 c0_i32_1
  v7

def k0_off7 (i : grid0.Coords) : Fin 2 → Nat :=
  let arg0 : BitVec 32 := BitVec.ofNat 32 (i 0).val
  let c1_i32_94 : BitVec 32 := 1#32
  let v176 : BitVec 32 := Scalar.addi arg0 c1_i32_94
  let c2_i32_95 : BitVec 32 := 2#32
  let v177 : BitVec 32 := Scalar.remsi v176 c2_i32_95
  let c0_i32_100 : BitVec 32 := 0#32
  ![v177.toNat, 0]
def k0_off8 (i : grid0.Coords) : Fin 4 → Nat :=
  let arg0 : BitVec 32 := BitVec.ofNat 32 (i 0).val
  let c1_i32_94 : BitVec 32 := 1#32
  let v176 : BitVec 32 := Scalar.addi arg0 c1_i32_94
  let c2_i32_95 : BitVec 32 := 2#32
  let v177 : BitVec 32 := Scalar.remsi v176 c2_i32_95
  let c0_i32_99 : BitVec 32 := 0#32
  let c0_i32_101 : BitVec 32 := 0#32
  let c0_i32_102 : BitVec 32 := 0#32
  ![v177.toNat, 0, 0, 0]
def k0_off9 (i : grid0.Coords) : Fin 3 → Nat :=
  let arg0 : BitVec 32 := BitVec.ofNat 32 (i 0).val
  let c1_i32_93 : BitVec 32 := 1#32
  let v175 : BitVec 32 := Scalar.addi arg0 c1_i32_93
  let c512_i32_96 : BitVec 32 := 512#32
  let v178 : BitVec 32 := Scalar.muli v175 c512_i32_96
  let c49488_i32_97 : BitVec 32 := 49488#32
  let v179 : BitVec 32 := Scalar.minsi v178 c49488_i32_97
  let c0_i32_98 : BitVec 32 := 0#32
  let c0_i32_103 : BitVec 32 := 0#32
  ![v179.toNat, 0, 0]
def k0_off10 (i : grid0.Coords) : Fin 2 → Nat :=
  let arg0 : BitVec 32 := BitVec.ofNat 32 (i 0).val
  let c1_i32_94 : BitVec 32 := 1#32
  let v176 : BitVec 32 := Scalar.addi arg0 c1_i32_94
  let c2_i32_95 : BitVec 32 := 2#32
  let v177 : BitVec 32 := Scalar.remsi v176 c2_i32_95
  let c1_i32_108 : BitVec 32 := 1#32
  ![v177.toNat, 1]
def k0_off11 (i : grid0.Coords) : Fin 4 → Nat :=
  let arg0 : BitVec 32 := BitVec.ofNat 32 (i 0).val
  let c1_i32_94 : BitVec 32 := 1#32
  let v176 : BitVec 32 := Scalar.addi arg0 c1_i32_94
  let c2_i32_95 : BitVec 32 := 2#32
  let v177 : BitVec 32 := Scalar.remsi v176 c2_i32_95
  let c1_i32_107 : BitVec 32 := 1#32
  let c0_i32_109 : BitVec 32 := 0#32
  let c0_i32_110 : BitVec 32 := 0#32
  ![v177.toNat, 1, 0, 0]
def k0_off12 (i : grid0.Coords) : Fin 3 → Nat :=
  let arg0 : BitVec 32 := BitVec.ofNat 32 (i 0).val
  let c1_i32_93 : BitVec 32 := 1#32
  let v175 : BitVec 32 := Scalar.addi arg0 c1_i32_93
  let c512_i32_104 : BitVec 32 := 512#32
  let v186 : BitVec 32 := Scalar.muli v175 c512_i32_104
  let c49488_i32_105 : BitVec 32 := 49488#32
  let v187 : BitVec 32 := Scalar.minsi v186 c49488_i32_105
  let c4_i32_106 : BitVec 32 := 4#32
  let c0_i32_111 : BitVec 32 := 0#32
  ![v187.toNat, 4, 0]
def k0_off13 (i : grid0.Coords) : Fin 2 → Nat :=
  let arg0 : BitVec 32 := BitVec.ofNat 32 (i 0).val
  let c1_i32_94 : BitVec 32 := 1#32
  let v176 : BitVec 32 := Scalar.addi arg0 c1_i32_94
  let c2_i32_95 : BitVec 32 := 2#32
  let v177 : BitVec 32 := Scalar.remsi v176 c2_i32_95
  let c2_i32_116 : BitVec 32 := 2#32
  ![v177.toNat, 2]
def k0_off14 (i : grid0.Coords) : Fin 4 → Nat :=
  let arg0 : BitVec 32 := BitVec.ofNat 32 (i 0).val
  let c1_i32_94 : BitVec 32 := 1#32
  let v176 : BitVec 32 := Scalar.addi arg0 c1_i32_94
  let c2_i32_95 : BitVec 32 := 2#32
  let v177 : BitVec 32 := Scalar.remsi v176 c2_i32_95
  let c2_i32_115 : BitVec 32 := 2#32
  let c0_i32_117 : BitVec 32 := 0#32
  let c0_i32_118 : BitVec 32 := 0#32
  ![v177.toNat, 2, 0, 0]
def k0_off15 (i : grid0.Coords) : Fin 3 → Nat :=
  let arg0 : BitVec 32 := BitVec.ofNat 32 (i 0).val
  let c1_i32_93 : BitVec 32 := 1#32
  let v175 : BitVec 32 := Scalar.addi arg0 c1_i32_93
  let c512_i32_112 : BitVec 32 := 512#32
  let v194 : BitVec 32 := Scalar.muli v175 c512_i32_112
  let c49488_i32_113 : BitVec 32 := 49488#32
  let v195 : BitVec 32 := Scalar.minsi v194 c49488_i32_113
  let c5_i32_114 : BitVec 32 := 5#32
  let c0_i32_119 : BitVec 32 := 0#32
  ![v195.toNat, 5, 0]
def k0_off16 (i : grid0.Coords) : Fin 2 → Nat :=
  let arg0 : BitVec 32 := BitVec.ofNat 32 (i 0).val
  let c1_i32_94 : BitVec 32 := 1#32
  let v176 : BitVec 32 := Scalar.addi arg0 c1_i32_94
  let c2_i32_95 : BitVec 32 := 2#32
  let v177 : BitVec 32 := Scalar.remsi v176 c2_i32_95
  let c3_i32_124 : BitVec 32 := 3#32
  ![v177.toNat, 3]
def k0_off17 (i : grid0.Coords) : Fin 4 → Nat :=
  let arg0 : BitVec 32 := BitVec.ofNat 32 (i 0).val
  let c1_i32_94 : BitVec 32 := 1#32
  let v176 : BitVec 32 := Scalar.addi arg0 c1_i32_94
  let c2_i32_95 : BitVec 32 := 2#32
  let v177 : BitVec 32 := Scalar.remsi v176 c2_i32_95
  let c3_i32_123 : BitVec 32 := 3#32
  let c0_i32_125 : BitVec 32 := 0#32
  let c0_i32_126 : BitVec 32 := 0#32
  ![v177.toNat, 3, 0, 0]
def k0_off18 (i : grid0.Coords) : Fin 3 → Nat :=
  let arg0 : BitVec 32 := BitVec.ofNat 32 (i 0).val
  let c1_i32_93 : BitVec 32 := 1#32
  let v175 : BitVec 32 := Scalar.addi arg0 c1_i32_93
  let c512_i32_120 : BitVec 32 := 512#32
  let v202 : BitVec 32 := Scalar.muli v175 c512_i32_120
  let c49488_i32_121 : BitVec 32 := 49488#32
  let v203 : BitVec 32 := Scalar.minsi v202 c49488_i32_121
  let c6_i32_122 : BitVec 32 := 6#32
  let c0_i32_127 : BitVec 32 := 0#32
  ![v203.toNat, 6, 0]
def k0_off19 (i : grid0.Coords) : Fin 2 → Nat :=
  let arg0 : BitVec 32 := BitVec.ofNat 32 (i 0).val
  let c1_i32_94 : BitVec 32 := 1#32
  let v176 : BitVec 32 := Scalar.addi arg0 c1_i32_94
  let c2_i32_95 : BitVec 32 := 2#32
  let v177 : BitVec 32 := Scalar.remsi v176 c2_i32_95
  let c4_i32_132 : BitVec 32 := 4#32
  ![v177.toNat, 4]
def k0_off20 (i : grid0.Coords) : Fin 4 → Nat :=
  let arg0 : BitVec 32 := BitVec.ofNat 32 (i 0).val
  let c1_i32_94 : BitVec 32 := 1#32
  let v176 : BitVec 32 := Scalar.addi arg0 c1_i32_94
  let c2_i32_95 : BitVec 32 := 2#32
  let v177 : BitVec 32 := Scalar.remsi v176 c2_i32_95
  let c4_i32_131 : BitVec 32 := 4#32
  let c0_i32_133 : BitVec 32 := 0#32
  let c0_i32_134 : BitVec 32 := 0#32
  ![v177.toNat, 4, 0, 0]
def k0_off21 (i : grid0.Coords) : Fin 3 → Nat :=
  let arg0 : BitVec 32 := BitVec.ofNat 32 (i 0).val
  let c1_i32_93 : BitVec 32 := 1#32
  let v175 : BitVec 32 := Scalar.addi arg0 c1_i32_93
  let c512_i32_128 : BitVec 32 := 512#32
  let v210 : BitVec 32 := Scalar.muli v175 c512_i32_128
  let c49488_i32_129 : BitVec 32 := 49488#32
  let v211 : BitVec 32 := Scalar.minsi v210 c49488_i32_129
  let c7_i32_130 : BitVec 32 := 7#32
  let c0_i32_135 : BitVec 32 := 0#32
  ![v211.toNat, 7, 0]
def k0_off22 (i : grid0.Coords) : Fin 2 → Nat :=
  let arg0 : BitVec 32 := BitVec.ofNat 32 (i 0).val
  let c1_i32_94 : BitVec 32 := 1#32
  let v176 : BitVec 32 := Scalar.addi arg0 c1_i32_94
  let c2_i32_95 : BitVec 32 := 2#32
  let v177 : BitVec 32 := Scalar.remsi v176 c2_i32_95
  let c5_i32_140 : BitVec 32 := 5#32
  ![v177.toNat, 5]
def k0_off23 (i : grid0.Coords) : Fin 4 → Nat :=
  let arg0 : BitVec 32 := BitVec.ofNat 32 (i 0).val
  let c1_i32_94 : BitVec 32 := 1#32
  let v176 : BitVec 32 := Scalar.addi arg0 c1_i32_94
  let c2_i32_95 : BitVec 32 := 2#32
  let v177 : BitVec 32 := Scalar.remsi v176 c2_i32_95
  let c5_i32_139 : BitVec 32 := 5#32
  let c0_i32_141 : BitVec 32 := 0#32
  let c0_i32_142 : BitVec 32 := 0#32
  ![v177.toNat, 5, 0, 0]
def k0_off24 (i : grid0.Coords) : Fin 3 → Nat :=
  let arg0 : BitVec 32 := BitVec.ofNat 32 (i 0).val
  let c1_i32_93 : BitVec 32 := 1#32
  let v175 : BitVec 32 := Scalar.addi arg0 c1_i32_93
  let c512_i32_136 : BitVec 32 := 512#32
  let v218 : BitVec 32 := Scalar.muli v175 c512_i32_136
  let c49488_i32_137 : BitVec 32 := 49488#32
  let v219 : BitVec 32 := Scalar.minsi v218 c49488_i32_137
  let c8_i32_138 : BitVec 32 := 8#32
  let c0_i32_143 : BitVec 32 := 0#32
  ![v219.toNat, 8, 0]
def k0_off25 (i : grid0.Coords) : Fin 2 → Nat :=
  let arg0 : BitVec 32 := BitVec.ofNat 32 (i 0).val
  let c2_i32 : BitVec 32 := 2#32
  let v3 : BitVec 32 := Scalar.remsi arg0 c2_i32
  let c0_i32_4 : BitVec 32 := 0#32
  ![v3.toNat, 0]
def k0_off26 (i : grid0.Coords) : Fin 4 → Nat :=
  let arg0 : BitVec 32 := BitVec.ofNat 32 (i 0).val
  let c2_i32 : BitVec 32 := 2#32
  let v3 : BitVec 32 := Scalar.remsi arg0 c2_i32
  let c0_i32_3 : BitVec 32 := 0#32
  let c0_i32_5 : BitVec 32 := 0#32
  let c0_i32_6 : BitVec 32 := 0#32
  ![v3.toNat, 0, 0, 0]
def k0_off27 (i : grid0.Coords) : Fin 3 → Nat :=
  let arg0 : BitVec 32 := BitVec.ofNat 32 (i 0).val
  let c512_i32 : BitVec 32 := 512#32
  let v8 : BitVec 32 := Scalar.muli arg0 c512_i32
  let c49488_i32 : BitVec 32 := 49488#32
  let v9 : BitVec 32 := Scalar.minsi v8 c49488_i32
  let c0_i32_2 : BitVec 32 := 0#32
  let c0_i32_7 : BitVec 32 := 0#32
  ![v9.toNat, 0, 0]
def k0_off28 (i : grid0.Coords) : Fin 2 → Nat :=
  let arg0 : BitVec 32 := BitVec.ofNat 32 (i 0).val
  let c2_i32 : BitVec 32 := 2#32
  let v3 : BitVec 32 := Scalar.remsi arg0 c2_i32
  let c1_i32_11 : BitVec 32 := 1#32
  ![v3.toNat, 1]
def k0_off29 (i : grid0.Coords) : Fin 4 → Nat :=
  let arg0 : BitVec 32 := BitVec.ofNat 32 (i 0).val
  let c2_i32 : BitVec 32 := 2#32
  let v3 : BitVec 32 := Scalar.remsi arg0 c2_i32
  let c1_i32_10 : BitVec 32 := 1#32
  let c0_i32_12 : BitVec 32 := 0#32
  let c0_i32_13 : BitVec 32 := 0#32
  ![v3.toNat, 1, 0, 0]
def k0_off30 (i : grid0.Coords) : Fin 3 → Nat :=
  let arg0 : BitVec 32 := BitVec.ofNat 32 (i 0).val
  let c512_i32_8 : BitVec 32 := 512#32
  let v16 : BitVec 32 := Scalar.muli arg0 c512_i32_8
  let c49488_i32_9 : BitVec 32 := 49488#32
  let v17 : BitVec 32 := Scalar.minsi v16 c49488_i32_9
  let c4_i32 : BitVec 32 := 4#32
  let c0_i32_14 : BitVec 32 := 0#32
  ![v17.toNat, 4, 0]
def k0_off31 (i : grid0.Coords) : Fin 2 → Nat :=
  let arg0 : BitVec 32 := BitVec.ofNat 32 (i 0).val
  let c2_i32 : BitVec 32 := 2#32
  let v3 : BitVec 32 := Scalar.remsi arg0 c2_i32
  let c2_i32_18 : BitVec 32 := 2#32
  ![v3.toNat, 2]
def k0_off32 (i : grid0.Coords) : Fin 4 → Nat :=
  let arg0 : BitVec 32 := BitVec.ofNat 32 (i 0).val
  let c2_i32 : BitVec 32 := 2#32
  let v3 : BitVec 32 := Scalar.remsi arg0 c2_i32
  let c2_i32_17 : BitVec 32 := 2#32
  let c0_i32_19 : BitVec 32 := 0#32
  let c0_i32_20 : BitVec 32 := 0#32
  ![v3.toNat, 2, 0, 0]
def k0_off33 (i : grid0.Coords) : Fin 3 → Nat :=
  let arg0 : BitVec 32 := BitVec.ofNat 32 (i 0).val
  let c512_i32_15 : BitVec 32 := 512#32
  let v24 : BitVec 32 := Scalar.muli arg0 c512_i32_15
  let c49488_i32_16 : BitVec 32 := 49488#32
  let v25 : BitVec 32 := Scalar.minsi v24 c49488_i32_16
  let c5_i32 : BitVec 32 := 5#32
  let c0_i32_21 : BitVec 32 := 0#32
  ![v25.toNat, 5, 0]
def k0_off34 (i : grid0.Coords) : Fin 2 → Nat :=
  let arg0 : BitVec 32 := BitVec.ofNat 32 (i 0).val
  let c2_i32 : BitVec 32 := 2#32
  let v3 : BitVec 32 := Scalar.remsi arg0 c2_i32
  let c3_i32_24 : BitVec 32 := 3#32
  ![v3.toNat, 3]
def k0_off35 (i : grid0.Coords) : Fin 4 → Nat :=
  let arg0 : BitVec 32 := BitVec.ofNat 32 (i 0).val
  let c2_i32 : BitVec 32 := 2#32
  let v3 : BitVec 32 := Scalar.remsi arg0 c2_i32
  let c3_i32 : BitVec 32 := 3#32
  let c0_i32_25 : BitVec 32 := 0#32
  let c0_i32_26 : BitVec 32 := 0#32
  ![v3.toNat, 3, 0, 0]
def k0_off36 (i : grid0.Coords) : Fin 3 → Nat :=
  let arg0 : BitVec 32 := BitVec.ofNat 32 (i 0).val
  let c512_i32_22 : BitVec 32 := 512#32
  let v32 : BitVec 32 := Scalar.muli arg0 c512_i32_22
  let c49488_i32_23 : BitVec 32 := 49488#32
  let v33 : BitVec 32 := Scalar.minsi v32 c49488_i32_23
  let c6_i32 : BitVec 32 := 6#32
  let c0_i32_27 : BitVec 32 := 0#32
  ![v33.toNat, 6, 0]
def k0_off37 (i : grid0.Coords) : Fin 2 → Nat :=
  let arg0 : BitVec 32 := BitVec.ofNat 32 (i 0).val
  let c2_i32 : BitVec 32 := 2#32
  let v3 : BitVec 32 := Scalar.remsi arg0 c2_i32
  let c4_i32_31 : BitVec 32 := 4#32
  ![v3.toNat, 4]
def k0_off38 (i : grid0.Coords) : Fin 4 → Nat :=
  let arg0 : BitVec 32 := BitVec.ofNat 32 (i 0).val
  let c2_i32 : BitVec 32 := 2#32
  let v3 : BitVec 32 := Scalar.remsi arg0 c2_i32
  let c4_i32_30 : BitVec 32 := 4#32
  let c0_i32_32 : BitVec 32 := 0#32
  let c0_i32_33 : BitVec 32 := 0#32
  ![v3.toNat, 4, 0, 0]
def k0_off39 (i : grid0.Coords) : Fin 3 → Nat :=
  let arg0 : BitVec 32 := BitVec.ofNat 32 (i 0).val
  let c512_i32_28 : BitVec 32 := 512#32
  let v40 : BitVec 32 := Scalar.muli arg0 c512_i32_28
  let c49488_i32_29 : BitVec 32 := 49488#32
  let v41 : BitVec 32 := Scalar.minsi v40 c49488_i32_29
  let c7_i32 : BitVec 32 := 7#32
  let c0_i32_34 : BitVec 32 := 0#32
  ![v41.toNat, 7, 0]
def k0_off40 (i : grid0.Coords) : Fin 2 → Nat :=
  let arg0 : BitVec 32 := BitVec.ofNat 32 (i 0).val
  let c2_i32 : BitVec 32 := 2#32
  let v3 : BitVec 32 := Scalar.remsi arg0 c2_i32
  let c5_i32_38 : BitVec 32 := 5#32
  ![v3.toNat, 5]
def k0_off41 (i : grid0.Coords) : Fin 4 → Nat :=
  let arg0 : BitVec 32 := BitVec.ofNat 32 (i 0).val
  let c2_i32 : BitVec 32 := 2#32
  let v3 : BitVec 32 := Scalar.remsi arg0 c2_i32
  let c5_i32_37 : BitVec 32 := 5#32
  let c0_i32_39 : BitVec 32 := 0#32
  let c0_i32_40 : BitVec 32 := 0#32
  ![v3.toNat, 5, 0, 0]
def k0_off42 (i : grid0.Coords) : Fin 3 → Nat :=
  let arg0 : BitVec 32 := BitVec.ofNat 32 (i 0).val
  let c512_i32_35 : BitVec 32 := 512#32
  let v48 : BitVec 32 := Scalar.muli arg0 c512_i32_35
  let c49488_i32_36 : BitVec 32 := 49488#32
  let v49 : BitVec 32 := Scalar.minsi v48 c49488_i32_36
  let c8_i32 : BitVec 32 := 8#32
  let c0_i32_41 : BitVec 32 := 0#32
  ![v49.toNat, 8, 0]
def k0_off43 (i : grid0.Coords) : Fin 4 → Nat :=
  let arg0 : BitVec 32 := BitVec.ofNat 32 (i 0).val
  let c2_i32 : BitVec 32 := 2#32
  let v3 : BitVec 32 := Scalar.remsi arg0 c2_i32
  let v64 : Index := Scalar.indexCast v3
  let c0 : Index := 0#32
  let c0_45 : Index := 0#32
  let c0_46 : Index := 0#32
  ![v64.toNat, 0, 0, 0]
def k0_off44 (i : grid0.Coords) : Fin 4 → Nat :=
  let arg0 : BitVec 32 := BitVec.ofNat 32 (i 0).val
  let c2_i32 : BitVec 32 := 2#32
  let v3 : BitVec 32 := Scalar.remsi arg0 c2_i32
  let v96 : Index := Scalar.indexCast v3
  let c1 : Index := 1#32
  let c0_62 : Index := 0#32
  let c0_63 : Index := 0#32
  ![v96.toNat, 1, 0, 0]
def k0_off45 (i : grid0.Coords) : Fin 4 → Nat :=
  let arg0 : BitVec 32 := BitVec.ofNat 32 (i 0).val
  let c2_i32 : BitVec 32 := 2#32
  let v3 : BitVec 32 := Scalar.remsi arg0 c2_i32
  let v107 : Index := Scalar.indexCast v3
  let c2 : Index := 2#32
  let c0_66 : Index := 0#32
  let c0_67 : Index := 0#32
  ![v107.toNat, 2, 0, 0]
def k0_off46 (i : grid0.Coords) : Fin 4 → Nat :=
  let arg0 : BitVec 32 := BitVec.ofNat 32 (i 0).val
  let c2_i32 : BitVec 32 := 2#32
  let v3 : BitVec 32 := Scalar.remsi arg0 c2_i32
  let v118 : Index := Scalar.indexCast v3
  let c3 : Index := 3#32
  let c0_70 : Index := 0#32
  let c0_71 : Index := 0#32
  ![v118.toNat, 3, 0, 0]
def k0_off47 (i : grid0.Coords) : Fin 4 → Nat :=
  let arg0 : BitVec 32 := BitVec.ofNat 32 (i 0).val
  let c2_i32 : BitVec 32 := 2#32
  let v3 : BitVec 32 := Scalar.remsi arg0 c2_i32
  let v129 : Index := Scalar.indexCast v3
  let c4 : Index := 4#32
  let c0_74 : Index := 0#32
  let c0_75 : Index := 0#32
  ![v129.toNat, 4, 0, 0]
def k0_off48 (i : grid0.Coords) : Fin 4 → Nat :=
  let arg0 : BitVec 32 := BitVec.ofNat 32 (i 0).val
  let c2_i32 : BitVec 32 := 2#32
  let v3 : BitVec 32 := Scalar.remsi arg0 c2_i32
  let v140 : Index := Scalar.indexCast v3
  let c5 : Index := 5#32
  let c0_78 : Index := 0#32
  let c0_79 : Index := 0#32
  ![v140.toNat, 5, 0, 0]
def k0_cond3 (i : grid0.Coords) : BitVec 1 :=
  let arg0 : BitVec 32 := BitVec.ofNat 32 (i 0).val
  let c97_i32 : BitVec 32 := 97#32
  let v172 : BitVec 1 := Scalar.cmpi .eq arg0 c97_i32
  let v173 : BitVec 32 := Scalar.extui v172
  let c0_i32_92 : BitVec 32 := 0#32
  let v174 : BitVec 1 := Scalar.cmpi .ne v173 c0_i32_92
  v174

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S50000x9x128 : Shape := ⟨3, ![50000, 9, 128]⟩
abbrev S50000 : Shape := ⟨1, ![50000]⟩
abbrev S500 : Shape := ⟨1, ![500]⟩
abbrev S128x128 : Shape := ⟨2, ![128, 128]⟩
abbrev S128 : Shape := ⟨1, ![128]⟩
abbrev S1x128 : Shape := ⟨2, ![1, 128]⟩
abbrev S1 : Shape := ⟨1, ![1]⟩
abbrev S3x1x128 : Shape := ⟨3, ![3, 1, 128]⟩
abbrev S9 : Shape := ⟨1, ![9]⟩
abbrev S9x9 : Shape := ⟨2, ![9, 9]⟩
abbrev S50000x1x128 : Shape := ⟨3, ![50000, 1, 128]⟩
abbrev S50000x128 : Shape := ⟨2, ![50000, 128]⟩
abbrev S_ : Shape := ⟨0, ![]⟩
abbrev S128x1 : Shape := ⟨2, ![128, 1]⟩
abbrev S50000x1 : Shape := ⟨2, ![50000, 1]⟩
abbrev S1x1 : Shape := ⟨2, ![1, 1]⟩
abbrev S9x1 : Shape := ⟨2, ![9, 1]⟩
abbrev S9x1x128 : Shape := ⟨3, ![9, 1, 128]⟩
abbrev S9x1x50000 : Shape := ⟨3, ![9, 1, 50000]⟩
abbrev S50000x9x1 : Shape := ⟨3, ![50000, 9, 1]⟩
abbrev S50000x5x1 : Shape := ⟨3, ![50000, 5, 1]⟩
abbrev S50000x5 : Shape := ⟨2, ![50000, 5]⟩
abbrev S500x5 : Shape := ⟨2, ![500, 5]⟩
abbrev S500x1 : Shape := ⟨2, ![500, 1]⟩
abbrev S500x9 : Shape := ⟨2, ![500, 9]⟩
abbrev S500x3x3 : Shape := ⟨3, ![500, 3, 3]⟩

abbrev nBuf : Space → Nat
  | .hbm => 103
  | .vmem => 0
  | .smem => 0
  | _ => 0

abbrev bufTy : (tb : Table) → Fin (tcTables nBuf tb) → BufTy
  | .hbm, ⟨0, _⟩ => ⟨S50000x9x128, .f32⟩
  | .hbm, ⟨1, _⟩ => ⟨S50000, .i32⟩
  | .hbm, ⟨2, _⟩ => ⟨S500, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x128, .f32⟩
  | .hbm, ⟨8, _⟩ => ⟨S1, .f32⟩
  | .hbm, ⟨9, _⟩ => ⟨S3x1x128, .f32⟩
  | .hbm, ⟨10, _⟩ => ⟨S1, .f32⟩
  | .hbm, ⟨11, _⟩ => ⟨S9, .i32⟩
  | .hbm, ⟨12, _⟩ => ⟨S9x9, .f32⟩
  | .hbm, ⟨13, _⟩ => ⟨S500, .f32⟩
  | .hbm, ⟨14, _⟩ => ⟨S50000x1x128, .f32⟩
  | .hbm, ⟨15, _⟩ => ⟨S50000x128, .f32⟩
  | .hbm, ⟨16, _⟩ => ⟨S128x128, .f32⟩
  | .hbm, ⟨17, _⟩ => ⟨S50000x128, .f32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S50000x128, .f32⟩
  | .hbm, ⟨22, _⟩ => ⟨S50000x128, .f32⟩
  | .hbm, ⟨23, _⟩ => ⟨S_, .f32⟩
  | .hbm, ⟨24, _⟩ => ⟨S50000x128, .f32⟩
  | .hbm, ⟨25, _⟩ => ⟨S50000x128, .f32⟩
  | .hbm, ⟨26, _⟩ => ⟨S_, .f32⟩
  | .hbm, ⟨27, _⟩ => ⟨S50000x128, .f32⟩
  | .hbm, ⟨28, _⟩ => ⟨S50000x128, .f32⟩
  | .hbm, ⟨29, _⟩ => ⟨S50000x128, .f32⟩
  | .hbm, ⟨30, _⟩ => ⟨S128x128, .f32⟩
  | .hbm, ⟨31, _⟩ => ⟨S50000x128, .f32⟩
  | .hbm, ⟨32, _⟩ => ⟨S1x128, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S_, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S128x1, .f32⟩
  | .hbm, ⟨45, _⟩ => ⟨S50000x1, .f32⟩
  | .hbm, ⟨46, _⟩ => ⟨S1x1, .f32⟩
  | .hbm, ⟨47, _⟩ => ⟨S50000x1, .f32⟩
  | .hbm, ⟨48, _⟩ => ⟨S50000x1, .f32⟩
  | .hbm, ⟨49, _⟩ => ⟨S50000, .f32⟩
  | .hbm, ⟨50, _⟩ => ⟨S_, .f32⟩
  | .hbm, ⟨51, _⟩ => ⟨S500, .f32⟩
  | .hbm, ⟨52, _⟩ => ⟨S50000x1, .i32⟩
  | .hbm, ⟨53, _⟩ => ⟨S500, .f32⟩
  | .hbm, ⟨54, _⟩ => ⟨S500, .f32⟩
  | .hbm, ⟨55, _⟩ => ⟨S_, .i32⟩
  | .hbm, ⟨56, _⟩ => ⟨S9, .i32⟩
  | .hbm, ⟨57, _⟩ => ⟨S9, .i1⟩
  | .hbm, ⟨58, _⟩ => ⟨S_, .i32⟩
  | .hbm, ⟨59, _⟩ => ⟨S9, .i32⟩
  | .hbm, ⟨60, _⟩ => ⟨S9, .i32⟩
  | .hbm, ⟨61, _⟩ => ⟨S9, .i32⟩
  | .hbm, ⟨62, _⟩ => ⟨S9x1, .i32⟩
  | .hbm, ⟨63, _⟩ => ⟨S1, .i32⟩
  | .hbm, ⟨64, _⟩ => ⟨S_, .i32⟩
  | .hbm, ⟨65, _⟩ => ⟨S9x1, .i32⟩
  | .hbm, ⟨66, _⟩ => ⟨S9x1, .i1⟩
  | .hbm, ⟨67, _⟩ => ⟨S1x1, .i32⟩
  | .hbm, ⟨68, _⟩ => ⟨S9x1, .i32⟩
  | .hbm, ⟨69, _⟩ => ⟨S9x1, .i1⟩
  | .hbm, ⟨70, _⟩ => ⟨S9x1, .i1⟩
  | .hbm, ⟨71, _⟩ => ⟨S_, .i1⟩
  | .hbm, ⟨72, _⟩ => ⟨S9, .i1⟩
  | .hbm, ⟨73, _⟩ => ⟨S9x1x128, .f32⟩
  | .hbm, ⟨74, _⟩ => ⟨S9x1x128, .i1⟩
  | .hbm, ⟨75, _⟩ => ⟨S_, .f32⟩
  | .hbm, ⟨76, _⟩ => ⟨S9x1x128, .f32⟩
  | .hbm, ⟨77, _⟩ => ⟨S9x1x128, .f32⟩
  | .hbm, ⟨78, _⟩ => ⟨S9x1x50000, .f32⟩
  | .hbm, ⟨79, _⟩ => ⟨S50000x9x1, .f32⟩
  | .hbm, ⟨80, _⟩ => ⟨S_, .i32⟩
  | .hbm, ⟨81, _⟩ => ⟨S1, .i32⟩
  | .hbm, ⟨82, _⟩ => ⟨S50000x1, .f32⟩
  | .hbm, ⟨83, _⟩ => ⟨S50000x9x1, .f32⟩
  | .hbm, ⟨84, _⟩ => ⟨S50000x5x1, .f32⟩
  | .hbm, ⟨85, _⟩ => ⟨S50000x5, .f32⟩
  | .hbm, ⟨86, _⟩ => ⟨S_, .f32⟩
  | .hbm, ⟨87, _⟩ => ⟨S500x5, .f32⟩
  | .hbm, ⟨88, _⟩ => ⟨S50000x1, .i32⟩
  | .hbm, ⟨89, _⟩ => ⟨S500x5, .f32⟩
  | .hbm, ⟨90, _⟩ => ⟨S500x1, .f32⟩
  | .hbm, ⟨91, _⟩ => ⟨S500x5, .f32⟩
  | .hbm, ⟨92, _⟩ => ⟨S500x5, .f32⟩
  | .hbm, ⟨93, _⟩ => ⟨S_, .f32⟩
  | .hbm, ⟨94, _⟩ => ⟨S500x9, .f32⟩
  | .hbm, ⟨95, _⟩ => ⟨S_, .i32⟩
  | .hbm, ⟨96, _⟩ => ⟨S1, .i32⟩
  | .hbm, ⟨97, _⟩ => ⟨S500x9, .f32⟩
  | .hbm, ⟨98, _⟩ => ⟨S_, .i32⟩
  | .hbm, ⟨99, _⟩ => ⟨S1, .i32⟩
  | .hbm, ⟨100, _⟩ => ⟨S500x9, .f32⟩
  | .hbm, ⟨101, _⟩ => ⟨S500x9, .f32⟩
  | .hbm, ⟨102, _⟩ => ⟨S500x3x3, .f32⟩
  | _, _ => ⟨S50000x9x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_0 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_c_1 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_cst_2 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_cst_3 : Ref sig .tc := ⟨.hbm, 93, rfl⟩
abbrev main_v39 : Ref sig .tc := ⟨.hbm, 94, rfl⟩
abbrev main_c_4 : Ref sig .tc := ⟨.hbm, 95, rfl⟩
abbrev main_v40 : Ref sig .tc := ⟨.hbm, 96, rfl⟩
abbrev main_v41 : Ref sig .tc := ⟨.hbm, 97, rfl⟩
abbrev main_c_5 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩

abbrev nD : Nat := 1
abbrev τ : Topo := Topo.v7x

variable {F : FTy → Type} [FloatOps F]
-- ==== Proof.IRing.lean ====
/- The stream of the kernel: how the six planes of one block of nodes travel from the operand left in HBM into the
   two-slot buffer, one block ahead of the point that reads them. This module names the buffer's pieces, the block's
   pieces, the cells and the shares of the operand each copy borrows, states what is in flight before each point, and
   shows that the launch hands over exactly the state before the first point and takes back the state after the last. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.FrameSuffix
public import Idealize.ShloMosaic.Lib.Pipeline.FrameSuffixR
public import Idealize.ShloMosaic.Lib.Ring
public import Idealize.ShloMosaic.Lib.Ring.AtN
public import Idealize.ShloMosaic.Lib.Ring.WriteBehind
public import Idealize.ShloMosaic.Lib.Tactic

@[expose] public section

set_option maxRecDepth 16384

noncomputable section

namespace Cert.KernelIdeal.Flow

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Buffers, cells and the operand in HBM -/

/-- The two-slot buffer of planes, whole. -/
abbrev ringBuf : Memref sig .tc .vmem S2x6x512x128 .f32 := Memref.whole cc0_scratch0
/-- The accumulator, whole. -/
abbrev accBuf : Memref sig .tc .vmem S512x8 .f32 := Memref.whole cc0_scratch2
/-- The node features, left in HBM, whole. -/
abbrev xHbm : Memref sig .tc .hbm S50000x9x128 .f32 := Memref.whole main_arg0

/-- The contents of the buffer a memref names on core `c`. -/
abbrev Cont (c : Dev nD) {sp : Space} {S : Shape} {e : EltTy} (M : Memref sig .tc sp S e) : Type :=
  Buf (Elt F) (M.view.loc (c : Thread nD τ))

/-- The buffer a memref names, held whole at `f`. -/
abbrev held (c : Dev nD) {sp : Space} {S : Shape} {e : EltTy} (M : Memref sig .tc sp S e) (f : Cont (F := F) c M) : sProp 𝕄 :=
  M.view.loc (c : Thread nD τ) ↦{fullShare} f

/-- The twelve cells the kernel waits on, by their number in the pool. -/
abbrev osem : Fin 12 → SemLoc sig := fun j =>
  (![SemLoc.dma 12, SemLoc.dma 13, SemLoc.dma 14, SemLoc.dma 15, SemLoc.dma 16, SemLoc.dma 17,
     SemLoc.dma 18, SemLoc.dma 19, SemLoc.dma 20, SemLoc.dma 21, SemLoc.dma 22, SemLoc.dma 23] : Fin 12 → SemLoc sig) j
theorem osem_facts : Pipeline.OwnSemFacts spec0 osem := by decide

/-- The node features are the one operand the body copies from by itself. -/
def hbmOps : Finset (Ref sig .tc) := {main_arg0}
theorem hbmOps_sub : hbmOps ⊆ Pipeline.restRefs sig spec0 := by decide

/-- The lines after the launch touch neither a window's array nor the node features. -/
theorem tail_clear : ∀ ops ∈ ([hostOps1] : List (List (HloOp τ sig (Elt F)))), ∀ op ∈ ops,
    op.bufs ⊆ Pipeline.tailRefsBut sig Pipeline.Prefetch.none spec0 hbmOps := by
  intro ops hops op hop
  obtain rfl : ops = hostOps1 := by simpa using hops
  refine Pipeline.sub_tailRefsBut Pipeline.Prefetch.none spec0 hbmOps op
    ((List.forall_iff_forall_mem.mp hostOps1_sub) op hop) (fun j => j.elim0) ?_
  simp only [hostOps1, List.mem_cons, List.mem_nil_iff, or_false] at hop
  rcases hop with rfl | rfl
  all_goals
    intro b hb
    obtain rfl : b = main_arg0 := by simpa [hbmOps] using hb
    simp only [StableHlo.unary_bufs, StableHlo.reshape_bufs, Finset.mem_insert, Finset.mem_singleton, not_or]
    and_intros <;> exact StableHlo.devRef_ne_of_ne (by decide)

/-! ## Block `k` of the stream -/

/-- The first row of block `k`: the last block is moved back so that it ends with the operand. -/
def blkRow (k : ℕ) : ℕ := min (512 * k) 49488
/-- Which plane of a node is streamed `p`-th. -/
def planeOf : Fin 6 → ℕ := ![0, 4, 5, 6, 7, 8]

theorem planeOf_le : ∀ p, planeOf p ≤ 8 := by decide

theorem slot_inb (k : ℕ) (p : Fin 6) : ∀ a, (![k % 2, p.val, 0, 0] : Fin 4 → ℕ) a + S1x1x512x128.size a ≤ S2x6x512x128.size a := by
  have := p.isLt; have := Nat.mod_lt k (show 0 < 2 by decide)
  intro a; fin_cases a <;> simp <;> omega
theorem blk_inb (k : ℕ) (p : Fin 6) : ∀ a, (![blkRow k, planeOf p, 0] : Fin 3 → ℕ) a + S512x1x128.size a ≤ S50000x9x128.size a := by
  have := planeOf_le p; unfold blkRow
  intro a; fin_cases a <;> simp <;> omega
theorem cell_inb (k : ℕ) (p : Fin 6) : ∀ a, (![k % 2, p.val] : Fin 2 → ℕ) a + S1x1.size a ≤ S2x6.size a := by
  have := p.isLt; have := Nat.mod_lt k (show 0 < 2 by decide)
  intro a; fin_cases a <;> simp <;> omega

/-- Where plane `p` of block `k` lands. -/
def slot (k : ℕ) (p : Fin 6) : Memref sig .tc .vmem S512x128 .f32 :=
  (ringBuf.slice (Rect.unit (s := S2x6x512x128) ![k % 2, p.val, 0, 0] S1x1x512x128.size (slot_inb k p)) (fun _ => rfl)).squeeze
    S512x128 squeezes_S1x1x512x128_S512x128
/-- Plane `p` of block `k` in the operand. -/
def blk (k : ℕ) (p : Fin 6) : Memref sig .tc .hbm S512x128 .f32 :=
  (xHbm.slice (Rect.unit (s := S50000x9x128) ![blkRow k, planeOf p, 0] S512x1x128.size (blk_inb k p)) (fun _ => rfl)).squeeze
    S512x128 squeezes_S512x1x128_S512x128
/-- The cell the copy of plane `p` of block `k` raises. -/
def cellA (k : ℕ) (p : Fin 6) : DmaSems sig S_ :=
  (cc0_scratch1.slice (Rect.unit (s := S2x6) ![k % 2, p.val] S1x1.size (cell_inb k p))).squeeze S_ squeezes_S1x1_S_
abbrev cell (k : ℕ) (p : Fin 6) : SemLoc sig := SemLoc.dma (cellA k p).sem

/-- Slots and cells alternate: block `k + 2` uses those of block `k`. -/
theorem slot_congr {j k : ℕ} (h : j % 2 = k % 2) (p : Fin 6) : slot j p = slot k p := by
  unfold slot; congr 2; simp only [h]
theorem cellA_congr {j k : ℕ} (h : j % 2 = k % 2) (p : Fin 6) : cellA j p = cellA k p := by
  unfold cellA; congr 2; simp only [h]

/-! ## Shares of the operand

Blocks may overlap (the last one is moved back), so every copy in flight borrows from a copy of the whole operand of its own:
the full share is cut into twelve, one per slot. -/

/-- A share cut into six. -/
def sixth (q : PosShare TreeShare) : Fin 6 → PosShare TreeShare :=
  ![q.left, q.right.left, q.right.right.left, q.right.right.right.left, q.right.right.right.right.left, q.right.right.right.right.right]
/-- The share block `k`'s slot parity owns. -/
def half (k : ℕ) : PosShare TreeShare := if k % 2 = 0 then fullShare.left else fullShare.right
def shareOf (k : ℕ) (p : Fin 6) : PosShare TreeShare := sixth (half k) p

theorem shareOf_congr {j k : ℕ} (h : j % 2 = k % 2) (p : Fin 6) : shareOf j p = shareOf k p := by
  unfold shareOf half; rw [h]

/-- One assertion per plane. -/
abbrev six (Φ : Fin 6 → sProp 𝕄) : sProp 𝕄 := iprop(Φ 0 ∗ Φ 1 ∗ Φ 2 ∗ Φ 3 ∗ Φ 4 ∗ Φ 5)

theorem six_mono {Φ Ψ : Fin 6 → sProp 𝕄} (h : ∀ p, Φ p ⊢ Ψ p) : six Φ ⊢ six Ψ :=
  BIClass.sep_mono (h 0) (BIClass.sep_mono (h 1) (BIClass.sep_mono (h 2) (BIClass.sep_mono (h 3) (BIClass.sep_mono (h 4) (h 5)))))

section Families
variable (c : Dev nD) (W : Cont (F := F) c xHbm)

/-- Slot `(k, p)` held at `f`. -/
abbrev slotP (k : ℕ) (p : Fin 6) (f : Cont (F := F) c (slot k p)) : sProp 𝕄 :=
  (slot k p).view.loc (c : Thread nD τ) ↦[(slot k p).view.set]{fullShare} f
/-- Its cell at zero. -/
abbrev cellP (k : ℕ) (p : Fin 6) : sProp 𝕄 := semVal ((c : Thread nD τ), cell k p) 0
/-- The elements of plane `p` of block `k`, in the slot's own copy of the operand. -/
abbrev blkP (k : ℕ) (p : Fin 6) : sProp 𝕄 :=
  (blk k p).view.loc (c : Thread nD τ) ↦[(blk k p).view.set]{shareOf k p} W
/-- The rest of that copy of the operand. -/
def restP (k : ℕ) (p : Fin 6) : sProp 𝕄 :=
  ((c : Thread nD τ).loc main_arg0) ↦[Finset.univ \ (blk k p).view.set]{shareOf k p} W
/-- That copy whole. -/
abbrev wholeP (k : ℕ) (p : Fin 6) : sProp 𝕄 := ((c : Thread nD τ).loc main_arg0) ↦[Finset.univ]{shareOf k p} W
/-- The slot's contents once plane `p` of block `k` has landed over `f`. -/
abbrev landed (k : ℕ) (p : Fin 6) (f : Cont (F := F) c (slot k p)) : Cont (F := F) c (slot k p) :=
  (slot k p).view.writes (Elt F) f [⟨Rect.whole S512x128, ReadAs.same.apply ((blk k p).view.read (Elt F) W)⟩]
/-- The copy in flight: it will hand back the slot with the plane landed, and the elements it borrowed. -/
abbrev flightP (k : ℕ) (p : Fin 6) (f : Cont (F := F) c (slot k p)) : sProp 𝕄 :=
  Transfers.Flight countersEmb (c : Thread nD τ) (cell k p) default ((slot k p).view.amount (cell k p))
    iprop(slotP c k p (landed c W k p f) ∗ blkP c W k p)

/-- A slot not in flight. -/
abbrev idle1 (k : ℕ) (p : Fin 6) : sProp 𝕄 := iprop(cellP c k p ∗ (∃ f, slotP c k p f) ∗ wholeP c W k p)
/-- A slot plane `p` of block `k` is flying into. -/
abbrev fly1 (k : ℕ) (p : Fin 6) : sProp 𝕄 := iprop((∃ f, flightP c W k p f) ∗ restP c W k p)

abbrev idle (k : ℕ) : sProp 𝕄 := six (idle1 c W k)
abbrev fly (k : ℕ) : sProp 𝕄 := six (fly1 c W k)

/-- The stream before point `k`: at both ends nothing flies, in between block `k` does and the other slots are idle. -/
def stream (k : ℕ) : sProp 𝕄 :=
  if k = 0 ∨ k = 98 then iprop(idle c W k ∗ idle c W (k + 1)) else iprop(fly c W k ∗ idle c W (k + 1))

theorem blk_split (k : ℕ) (p : Fin 6) : wholeP (F := F) c W k p ⊣⊢ iprop(blkP c W k p ∗ restP c W k p) := by
  unfold restP; exact pointsTo_split_subset (Finset.subset_univ _)

theorem idle1_congr {j k : ℕ} (h : j % 2 = k % 2) (p : Fin 6) : idle1 (F := F) c W j p = idle1 c W k p := by
  unfold idle1 cellP slotP wholeP cell; rw [slot_congr h, cellA_congr h, shareOf_congr h]
theorem idle_congr {j k : ℕ} (h : j % 2 = k % 2) : idle (F := F) c W j = idle c W k := by
  unfold idle six; simp only [idle1_congr c W h]

/-- Six shares of a buffer make the share they were cut from. -/
theorem sixth_split (q : PosShare TreeShare) :
    (((c : Thread nD τ).loc main_arg0) ↦[Finset.univ]{q} W : sProp 𝕄)
      ⊣⊢ six fun p => ((c : Thread nD τ).loc main_arg0) ↦[Finset.univ]{sixth q p} W := by
  have h (r : PosShare TreeShare) := pointsTo_share (Ix := Unit) (Name := ℕ) (U := Pipeline.UD sig nD τ) (Lvl := ℕ)
    (ℓ := (c : Thread nD τ).loc main_arg0) (I := Finset.univ) (f := W) (PosShare.mem_left_op_right r)
  constructor
  · exact (h _).1.trans (BIClass.sep_mono .rfl <| (h _).1.trans <| BIClass.sep_mono .rfl <| (h _).1.trans <| BIClass.sep_mono .rfl <|
      (h _).1.trans <| BIClass.sep_mono .rfl (h _).1)
  · exact BIBase.Entails.trans (BIClass.sep_mono .rfl <| BIBase.Entails.trans (BIClass.sep_mono .rfl <| BIBase.Entails.trans (BIClass.sep_mono .rfl <| BIBase.Entails.trans (BIClass.sep_mono .rfl (h _).2)
      (h _).2) (h _).2) (h _).2) (h _).2

end Families

/-! ## The launch's pieces and the stream's -/

/-- Both slots' boxes, numbered. -/
abbrev box (s : Fin 12) : Finset S2x6x512x128.Idx :=
  (Rect.unit (s := S2x6x512x128) ![(s.val / 6) % 2, (⟨s.val % 6, Nat.mod_lt _ (by decide)⟩ : Fin 6).val, 0, 0] S1x1x512x128.size
    (slot_inb (s.val / 6) ⟨s.val % 6, Nat.mod_lt _ (by decide)⟩)).set

theorem slot_set (k : ℕ) (p : Fin 6) :
    (slot k p).view.set = (Rect.unit (s := S2x6x512x128) ![k % 2, p.val, 0, 0] S1x1x512x128.size (slot_inb k p)).set := by
  simp only [slot, Memref.view_squeeze, View.set_reshape]; exact View.set_slice_whole _ _

theorem box_disjoint (s s' : Fin 12) (h : s ≠ s') : Disjoint (box s) (box s') :=
  Ring.boxes_disjoint (s := S2x6x512x128) S1x1x512x128.size
    (fun s : Fin 12 => (![(s.val / 6) % 2, s.val % 6, 0, 0] : Fin 4 → ℕ))
    (fun s => slot_inb (s.val / 6) ⟨s.val % 6, Nat.mod_lt _ (by decide)⟩)
    (fun s => (![(s.val / 6) % 2, s.val % 6, 0, 0] : Fin 4 → ℕ))
    (by decide) (fun κ => Fin.ofNat 12 (6 * κ 0 + κ 1)) (by decide) s s' h

theorem box_cover : Finset.univ.biUnion box = Finset.univ := by
  refine (Ring.boxes_cover_grid (s := S2x6x512x128) S1x1x512x128.size
    (fun s : Fin 12 => (![(s.val / 6) % 2, s.val % 6, 0, 0] : Fin 4 → ℕ))
    (fun s => slot_inb (s.val / 6) ⟨s.val % 6, Nat.mod_lt _ (by decide)⟩)
    (fun _ => 0) S2x6x512x128.size (fun a => by simp)
    (fun s => (![(s.val / 6) % 2, s.val % 6, 0, 0] : Fin 4 → ℕ)) (by decide) ![2, 6, 1, 1] (by decide) (fun _ => 0) (by decide)
    (fun j => ⟨⟨6 * (j 0).val + (j 1).val, by have := (j 0).isLt; have := (j 1).isLt; simp at *; omega⟩, fun a => ?_⟩)
    (by decide)).trans ?_
  · have h0 := (j 0).isLt; have h1 := (j 1).isLt; have h2 := (j 2).isLt; have h3 := (j 3).isLt
    fin_cases a <;> simp at * <;> omega
  · ext x; simp only [Rect.mem_set_unit, Finset.mem_univ, iff_true]
    intro a; exact ⟨Nat.zero_le _, by rw [Nat.zero_add]; exact (x a).isLt⟩

/-- Twelve assertions in a row, as six and six. -/
theorem twelve_six (Φ Ψ : Fin 6 → sProp 𝕄) :
    iprop(Φ 0 ∗ Φ 1 ∗ Φ 2 ∗ Φ 3 ∗ Φ 4 ∗ Φ 5 ∗ Ψ 0 ∗ Ψ 1 ∗ Ψ 2 ∗ Ψ 3 ∗ Ψ 4 ∗ Ψ 5) ⊣⊢ iprop(six Φ ∗ six Ψ) := by
  constructor
  · iintro ⟨H0, H1, H2, H3, H4, H5, HΨ⟩
    isplitr [HΨ]
    · isplitl [H0]; · iexact H0
      isplitl [H1]; · iexact H1
      isplitl [H2]; · iexact H2
      isplitl [H3]; · iexact H3
      isplitl [H4]; · iexact H4
      iexact H5
    · iexact HΨ
  · iintro ⟨⟨H0, H1, H2, H3, H4, H5⟩, HΨ⟩
    isplitl [H0]; · iexact H0
    isplitl [H1]; · iexact H1
    isplitl [H2]; · iexact H2
    isplitl [H3]; · iexact H3
    isplitl [H4]; · iexact H4
    isplitl [H5]; · iexact H5
    iexact HΨ

/-- Assertions per plane may be joined plane by plane. -/
theorem six_sep (Φ Ψ : Fin 6 → sProp 𝕄) : iprop(six Φ ∗ six Ψ) ⊣⊢ six fun p => iprop(Φ p ∗ Ψ p) := by
  constructor
  · iintro ⟨⟨H0, H1, H2, H3, H4, H5⟩, ⟨G0, G1, G2, G3, G4, G5⟩⟩
    isplitl [H0 G0]; · isplitl [H0]; · iexact H0
                       iexact G0
    isplitl [H1 G1]; · isplitl [H1]; · iexact H1
                       iexact G1
    isplitl [H2 G2]; · isplitl [H2]; · iexact H2
                       iexact G2
    isplitl [H3 G3]; · isplitl [H3]; · iexact H3
                       iexact G3
    isplitl [H4 G4]; · isplitl [H4]; · iexact H4
                       iexact G4
    isplitl [H5]; · iexact H5
    iexact G5
  · iintro ⟨⟨H0, G0⟩, ⟨H1, G1⟩, ⟨H2, G2⟩, ⟨H3, G3⟩, ⟨H4, G4⟩, ⟨H5, G5⟩⟩
    isplitl [H0 H1 H2 H3 H4 H5]
    · isplitl [H0]; · iexact H0
      isplitl [H1]; · iexact H1
      isplitl [H2]; · iexact H2
      isplitl [H3]; · iexact H3
      isplitl [H4]; · iexact H4
      iexact H5
    · isplitl [G0]; · iexact G0
      isplitl [G1]; · iexact G1
      isplitl [G2]; · iexact G2
      isplitl [G3]; · iexact G3
      isplitl [G4]; · iexact G4
      iexact G5

section InOut
variable (c : Dev nD) (W : Cont (F := F) c xHbm)

theorem slotP_box (k : ℕ) (p : Fin 6) (s : Fin 12) (hk : k % 2 = (s.val / 6) % 2) (hp : p.val = s.val % 6)
    (f : Buf (Elt F) ((c : Thread nD τ).loc cc0_scratch0)) :
    slotP (F := F) c k p f = (((c : Thread nD τ).loc cc0_scratch0) ↦[box s]{fullShare} f : sProp 𝕄) := by
  obtain rfl : p = ⟨s.val % 6, Nat.mod_lt _ (by decide)⟩ := Fin.ext hp
  unfold slotP; rw [slot_set]
  simp only [hk]; rfl

/-- A slot held at contents of the whole buffer. -/
def slotAt (k : ℕ) (p : Fin 6) (f : Buf (Elt F) ((c : Thread nD τ).loc cc0_scratch0)) : sProp 𝕄 := slotP c k p f
/-- The slots named by their number: `6 * parity + plane`. -/
def numSlot (s : Fin 12) (f : Buf (Elt F) ((c : Thread nD τ).loc cc0_scratch0)) : sProp 𝕄 :=
  slotAt c (s.val / 6) ⟨s.val % 6, Nat.mod_lt _ (by decide)⟩ f
theorem numSlot_box (s : Fin 12) (f : Buf (Elt F) ((c : Thread nD τ).loc cc0_scratch0)) :
    numSlot (F := F) c s f = (((c : Thread nD τ).loc cc0_scratch0) ↦[box s]{fullShare} f : sProp 𝕄) := by
  unfold numSlot slotAt; exact slotP_box c _ _ s rfl rfl f
theorem slots_numbered :
    (bigSepL [0, 1, 2, 3, 4, 5, 6, 7, 8, 9, 10, 11] (fun s : Fin 12 => iprop(∃ f, numSlot (F := F) c s f)) : sProp 𝕄)
      = iprop((∃ f, slotAt (F := F) c 0 0 f) ∗ (∃ f, slotAt (F := F) c 0 1 f) ∗ (∃ f, slotAt (F := F) c 0 2 f)
        ∗ (∃ f, slotAt (F := F) c 0 3 f) ∗ (∃ f, slotAt (F := F) c 0 4 f) ∗ (∃ f, slotAt (F := F) c 0 5 f)
        ∗ (∃ f, slotAt (F := F) c 1 0 f) ∗ (∃ f, slotAt (F := F) c 1 1 f) ∗ (∃ f, slotAt (F := F) c 1 2 f)
        ∗ (∃ f, slotAt (F := F) c 1 3 f) ∗ (∃ f, slotAt (F := F) c 1 4 f) ∗ (∃ f, slotAt (F := F) c 1 5 f)) := rfl

/-- The two-slot buffer whole at anything is its twelve slots at anything. -/
theorem slots_split : iprop(∃ d, owns (c : Thread nD τ) ringBuf fullShare d)
    ⊣⊢ (iprop((six fun p => iprop(∃ f, slotP (F := F) c 0 p f)) ∗ six fun p => iprop(∃ f, slotP (F := F) c 1 p f)) : sProp 𝕄) := by
  simp only [ringBuf, owns_whole]
  have h := twelve_six (fun p => iprop(∃ f, slotAt (F := F) c 0 p f)) (fun p => iprop(∃ f, slotAt (F := F) c 1 p f))
  rw [← slots_numbered] at h
  constructor
  · exact (Ring.slots_split_n (U := Pipeline.UD sig nD τ) (ℓ := (c : Thread nD τ).loc cc0_scratch0) (q := fullShare) box box_disjoint box_cover
      [0, 1, 2, 3, 4, 5, 6, 7, 8, 9, 10, 11] (by decide) (by decide) (numSlot (F := F) c) (numSlot_box c)).trans h.1
  · exact h.2.trans
      (Ring.slots_join_n (U := Pipeline.UD sig nD τ) (ℓ := (c : Thread nD τ).loc cc0_scratch0) (q := fullShare) box box_disjoint box_cover
      [0, 1, 2, 3, 4, 5, 6, 7, 8, 9, 10, 11] (by decide) (by decide) (numSlot (F := F) c) (numSlot_box c))

theorem cell_num : ∀ s : Fin 12, osem s = cell (s.val / 6) ⟨s.val % 6, Nat.mod_lt _ (by decide)⟩ := by decide

/-- The cells at zero, by parity and plane. -/
theorem cells_split :
    (Pipeline.ownSems0 (Ix := Unit) (Name := ℕ) (U := Pipeline.UD sig nD τ) (Lvl := ℕ) (Val := Elt F) (τ := τ) osem c : sProp 𝕄)
      ⊣⊢ iprop(six (cellP (F := F) c 0) ∗ six (cellP (F := F) c 1)) := by
  rw [Pipeline.ownSems0_eq_of_list c osem [0, 1, 2, 3, 4, 5, 6, 7, 8, 9, 10, 11] (by decide) (by decide)]
  simp only [cell_num]
  exact twelve_six (cellP (F := F) c 0) (cellP (F := F) c 1)

/-- The operand whole is its twelve shares. -/
theorem whole_split : (held c xHbm W : sProp 𝕄) ⊣⊢ iprop(six (wholeP c W 0) ∗ six (wholeP c W 1)) := by
  have h := pointsTo_share (Ix := Unit) (Name := ℕ) (U := Pipeline.UD sig nD τ) (Lvl := ℕ)
    (ℓ := (c : Thread nD τ).loc main_arg0) (I := Finset.univ) (f := W) (PosShare.mem_left_op_right fullShare)
  have hl := sixth_split (F := F) c W fullShare.left
  have hr := sixth_split (F := F) c W fullShare.right
  constructor
  · exact h.1.trans (BIClass.sep_mono hl.1 hr.1)
  · exact BIBase.Entails.trans (BIClass.sep_mono hl.2 hr.2) h.2

/-- Cells, slots and operand copies, gathered plane by plane. -/
theorem idle_gather (k : ℕ) :
    iprop(six (cellP (F := F) c k) ∗ (six fun p => iprop(∃ f, slotP (F := F) c k p f)) ∗ six (wholeP c W k)) ⊣⊢ idle c W k := by
  constructor
  · exact (BIClass.sep_mono .rfl (six_sep _ _).1).trans (six_sep _ _).1
  · exact (six_sep _ _).2.trans (BIClass.sep_mono .rfl (six_sep _ _).2)

/-- The launch's pieces — the buffer, the cells, the operand — are both parities idle. -/
theorem idle_launch :
    iprop((∃ d, owns (c : Thread nD τ) ringBuf fullShare d)
        ∗ (Pipeline.ownSems0 (Ix := Unit) (Name := ℕ) (U := Pipeline.UD sig nD τ) (Lvl := ℕ) (Val := Elt F) (τ := τ) osem c : sProp 𝕄)
        ∗ held c xHbm W)
      ⊣⊢ iprop(idle (F := F) c W 0 ∗ idle c W 1) := by
  constructor
  · iintro ⟨HS, HC, HW⟩
    ihave HS' := (slots_split (F := F) c).1 $$ HS
    ihave HC' := (cells_split (F := F) c).1 $$ HC
    ihave HW' := (whole_split (F := F) c W).1 $$ HW
    icases HS' with ⟨S0, S1⟩
    icases HC' with ⟨C0, C1⟩
    icases HW' with ⟨W0, W1⟩
    isplitl [S0 C0 W0]
    · iapply (idle_gather (F := F) c W 0).1
      isplitl [C0]; · iexact C0
      isplitl [S0]; · iexact S0
      iexact W0
    · iapply (idle_gather (F := F) c W 1).1
      isplitl [C1]; · iexact C1
      isplitl [S1]; · iexact S1
      iexact W1
  · iintro ⟨I0, I1⟩
    ihave I0' := (idle_gather (F := F) c W 0).2 $$ I0
    ihave I1' := (idle_gather (F := F) c W 1).2 $$ I1
    icases I0' with ⟨C0, S0, W0⟩
    icases I1' with ⟨C1, S1, W1⟩
    isplitl [S0 S1]
    · iapply (slots_split (F := F) c).2; isplitl [S0]; · iexact S0
      iexact S1
    isplitl [C0 C1]
    · iapply (cells_split (F := F) c).2; isplitl [C0]; · iexact C0
      iexact C1
    · iapply (whole_split (F := F) c W).2; isplitl [W0]; · iexact W0
      iexact W1

theorem stream_first : stream (F := F) c W 0 = iprop(idle c W 0 ∗ idle c W 1) := by unfold stream; rw [if_pos (.inl rfl)]
theorem stream_last : stream (F := F) c W 98 = iprop(idle c W 0 ∗ idle c W 1) := by
  unfold stream; rw [if_pos (.inr rfl), idle_congr c W (show 98 % 2 = 0 % 2 from rfl), idle_congr c W (show (98 + 1) % 2 = 1 % 2 from rfl)]
theorem stream_mid (k : ℕ) (h0 : k ≠ 0) (h1 : k ≠ 98) : stream (F := F) c W k = iprop(fly c W k ∗ idle c W (k + 1)) := by
  unfold stream; rw [if_neg (by omega)]

end InOut

end Cert.KernelIdeal.Flow

end
-- ==== Proof.INames.lean ====
/- The stream's names at a point: the slices, blocks and cells the body's transfers and loads are written with, at point `t`,
   are the stream's slot, block and cell of block `t` or `t + 1`. -/
module

public import proofs.«01_k».proof.Proof.IRing

@[expose] public section

set_option maxRecDepth 16384

noncomputable section

namespace Cert.KernelIdeal.Flow

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The first point. -/
def firstPt : Fin grid0.N := ⟨0, by decide⟩

/-- A slice of the two-slot buffer at slot `(k, p)`'s offsets is that slot. -/
theorem to_slot {off : Fin 4 → ℕ} (k : ℕ) (p : Fin 6) (e : off = ![k % 2, p.val, 0, 0])
    (h : ∀ a, off a + S1x1x512x128.size a ≤ S2x6x512x128.size a) :
    (ringBuf.slice (Rect.unit (s := S2x6x512x128) off S1x1x512x128.size h) (fun _ => rfl)).squeeze S512x128
      squeezes_S1x1x512x128_S512x128 = slot k p := by subst e; rfl
/-- A slice of the operand at block `(k, p)`'s offsets is that block. -/
theorem to_blk {off : Fin 3 → ℕ} (k : ℕ) (p : Fin 6) (e : off = ![blkRow k, planeOf p, 0])
    (h : ∀ a, off a + S512x1x128.size a ≤ S50000x9x128.size a) :
    (xHbm.slice (Rect.unit (s := S50000x9x128) off S512x1x128.size h) (fun _ => rfl)).squeeze S512x128
      squeezes_S512x1x128_S512x128 = blk k p := by subst e; rfl
/-- A slice of the cells at `(k, p)`'s offsets is that cell. -/
theorem to_cell {off : Fin 2 → ℕ} (k : ℕ) (p : Fin 6) (e : off = ![k % 2, p.val])
    (h : ∀ a, off a + S1x1.size a ≤ S2x6.size a) :
    (cc0_scratch1.slice (Rect.unit (s := S2x6) off S1x1.size h)).squeeze S_ squeezes_S1x1_S_ = cellA k p := by subst e; rfl

/-! ## The first point starts block 0 -/

@[sl_canon] theorem first_slot0 (t : Fin grid0.N) (h) :
    (ringBuf.slice (Rect.unit (s := S2x6x512x128) ![0, 0, 0, 0] S1x1x512x128.size h) (fun _ => rfl)).squeeze S512x128 squeezes_S1x1x512x128_S512x128 = slot firstPt.val 0 :=
  to_slot _ _ (by decide) h
@[sl_canon] theorem first_cell0 (t : Fin grid0.N) (h) :
    (cc0_scratch1.slice (Rect.unit (s := S2x6) ![0, 0] S1x1.size h)).squeeze S_ squeezes_S1x1_S_ = cellA firstPt.val 0 :=
  to_cell _ _ (by decide) h
@[sl_canon] theorem first_blk0 (t : Fin grid0.N) (h) :
    (xHbm.slice (Rect.unit (s := S50000x9x128) k0_off1 S512x1x128.size h) (fun _ => rfl)).squeeze S512x128 squeezes_S512x1x128_S512x128 = blk firstPt.val 0 :=
  to_blk _ _ (by decide +kernel) h
@[sl_canon] theorem first_slot1 (t : Fin grid0.N) (h) :
    (ringBuf.slice (Rect.unit (s := S2x6x512x128) ![0, 1, 0, 0] S1x1x512x128.size h) (fun _ => rfl)).squeeze S512x128 squeezes_S1x1x512x128_S512x128 = slot firstPt.val 1 :=
  to_slot _ _ (by decide) h
@[sl_canon] theorem first_cell1 (t : Fin grid0.N) (h) :
    (cc0_scratch1.slice (Rect.unit (s := S2x6) ![0, 1] S1x1.size h)).squeeze S_ squeezes_S1x1_S_ = cellA firstPt.val 1 :=
  to_cell _ _ (by decide) h
@[sl_canon] theorem first_blk1 (t : Fin grid0.N) (h) :
    (xHbm.slice (Rect.unit (s := S50000x9x128) k0_off2 S512x1x128.size h) (fun _ => rfl)).squeeze S512x128 squeezes_S512x1x128_S512x128 = blk firstPt.val 1 :=
  to_blk _ _ (by decide +kernel) h
@[sl_canon] theorem first_slot2 (t : Fin grid0.N) (h) :
    (ringBuf.slice (Rect.unit (s := S2x6x512x128) ![0, 2, 0, 0] S1x1x512x128.size h) (fun _ => rfl)).squeeze S512x128 squeezes_S1x1x512x128_S512x128 = slot firstPt.val 2 :=
  to_slot _ _ (by decide) h
@[sl_canon] theorem first_cell2 (t : Fin grid0.N) (h) :
    (cc0_scratch1.slice (Rect.unit (s := S2x6) ![0, 2] S1x1.size h)).squeeze S_ squeezes_S1x1_S_ = cellA firstPt.val 2 :=
  to_cell _ _ (by decide) h
@[sl_canon] theorem first_blk2 (t : Fin grid0.N) (h) :
    (xHbm.slice (Rect.unit (s := S50000x9x128) k0_off3 S512x1x128.size h) (fun _ => rfl)).squeeze S512x128 squeezes_S512x1x128_S512x128 = blk firstPt.val 2 :=
  to_blk _ _ (by decide +kernel) h
@[sl_canon] theorem first_slot3 (t : Fin grid0.N) (h) :
    (ringBuf.slice (Rect.unit (s := S2x6x512x128) ![0, 3, 0, 0] S1x1x512x128.size h) (fun _ => rfl)).squeeze S512x128 squeezes_S1x1x512x128_S512x128 = slot firstPt.val 3 :=
  to_slot _ _ (by decide) h
@[sl_canon] theorem first_cell3 (t : Fin grid0.N) (h) :
    (cc0_scratch1.slice (Rect.unit (s := S2x6) ![0, 3] S1x1.size h)).squeeze S_ squeezes_S1x1_S_ = cellA firstPt.val 3 :=
  to_cell _ _ (by decide) h
@[sl_canon] theorem first_blk3 (t : Fin grid0.N) (h) :
    (xHbm.slice (Rect.unit (s := S50000x9x128) k0_off4 S512x1x128.size h) (fun _ => rfl)).squeeze S512x128 squeezes_S512x1x128_S512x128 = blk firstPt.val 3 :=
  to_blk _ _ (by decide +kernel) h
@[sl_canon] theorem first_slot4 (t : Fin grid0.N) (h) :
    (ringBuf.slice (Rect.unit (s := S2x6x512x128) ![0, 4, 0, 0] S1x1x512x128.size h) (fun _ => rfl)).squeeze S512x128 squeezes_S1x1x512x128_S512x128 = slot firstPt.val 4 :=
  to_slot _ _ (by decide) h
@[sl_canon] theorem first_cell4 (t : Fin grid0.N) (h) :
    (cc0_scratch1.slice (Rect.unit (s := S2x6) ![0, 4] S1x1.size h)).squeeze S_ squeezes_S1x1_S_ = cellA firstPt.val 4 :=
  to_cell _ _ (by decide) h
@[sl_canon] theorem first_blk4 (t : Fin grid0.N) (h) :
    (xHbm.slice (Rect.unit (s := S50000x9x128) k0_off5 S512x1x128.size h) (fun _ => rfl)).squeeze S512x128 squeezes_S512x1x128_S512x128 = blk firstPt.val 4 :=
  to_blk _ _ (by decide +kernel) h
@[sl_canon] theorem first_slot5 (t : Fin grid0.N) (h) :
    (ringBuf.slice (Rect.unit (s := S2x6x512x128) ![0, 5, 0, 0] S1x1x512x128.size h) (fun _ => rfl)).squeeze S512x128 squeezes_S1x1x512x128_S512x128 = slot firstPt.val 5 :=
  to_slot _ _ (by decide) h
@[sl_canon] theorem first_cell5 (t : Fin grid0.N) (h) :
    (cc0_scratch1.slice (Rect.unit (s := S2x6) ![0, 5] S1x1.size h)).squeeze S_ squeezes_S1x1_S_ = cellA firstPt.val 5 :=
  to_cell _ _ (by decide) h
@[sl_canon] theorem first_blk5 (t : Fin grid0.N) (h) :
    (xHbm.slice (Rect.unit (s := S50000x9x128) k0_off6 S512x1x128.size h) (fun _ => rfl)).squeeze S512x128 squeezes_S512x1x128_S512x128 = blk firstPt.val 5 :=
  to_blk _ _ (by decide +kernel) h

/-! ## A point starts the block after its own -/

theorem next_offs0 : ∀ t : Fin grid0.N, k0_off7 (grid0.coords t) = ![(t.val + 1) % 2, 0] ∧ k0_off8 (grid0.coords t) = ![(t.val + 1) % 2, 0, 0, 0]
    ∧ k0_off9 (grid0.coords t) = ![blkRow (t.val + 1), 0, 0] := by decide +kernel
theorem next_offs1 : ∀ t : Fin grid0.N, k0_off10 (grid0.coords t) = ![(t.val + 1) % 2, 1] ∧ k0_off11 (grid0.coords t) = ![(t.val + 1) % 2, 1, 0, 0]
    ∧ k0_off12 (grid0.coords t) = ![blkRow (t.val + 1), 4, 0] := by decide +kernel
theorem next_offs2 : ∀ t : Fin grid0.N, k0_off13 (grid0.coords t) = ![(t.val + 1) % 2, 2] ∧ k0_off14 (grid0.coords t) = ![(t.val + 1) % 2, 2, 0, 0]
    ∧ k0_off15 (grid0.coords t) = ![blkRow (t.val + 1), 5, 0] := by decide +kernel
theorem next_offs3 : ∀ t : Fin grid0.N, k0_off16 (grid0.coords t) = ![(t.val + 1) % 2, 3] ∧ k0_off17 (grid0.coords t) = ![(t.val + 1) % 2, 3, 0, 0]
    ∧ k0_off18 (grid0.coords t) = ![blkRow (t.val + 1), 6, 0] := by decide +kernel
theorem next_offs4 : ∀ t : Fin grid0.N, k0_off19 (grid0.coords t) = ![(t.val + 1) % 2, 4] ∧ k0_off20 (grid0.coords t) = ![(t.val + 1) % 2, 4, 0, 0]
    ∧ k0_off21 (grid0.coords t) = ![blkRow (t.val + 1), 7, 0] := by decide +kernel
theorem next_offs5 : ∀ t : Fin grid0.N, k0_off22 (grid0.coords t) = ![(t.val + 1) % 2, 5] ∧ k0_off23 (grid0.coords t) = ![(t.val + 1) % 2, 5, 0, 0]
    ∧ k0_off24 (grid0.coords t) = ![blkRow (t.val + 1), 8, 0] := by decide +kernel
@[sl_canon] theorem next_cell0 (t : Fin grid0.N) (h) :
    (cc0_scratch1.slice (Rect.unit (s := S2x6) (k0_off7 (grid0.coords t)) S1x1.size h)).squeeze S_ squeezes_S1x1_S_ = cellA (t.val + 1) 0 :=
  to_cell _ _ (next_offs0 t).1 h
@[sl_canon] theorem next_slot0 (t : Fin grid0.N) (h) :
    (ringBuf.slice (Rect.unit (s := S2x6x512x128) (k0_off8 (grid0.coords t)) S1x1x512x128.size h) (fun _ => rfl)).squeeze S512x128 squeezes_S1x1x512x128_S512x128 = slot (t.val + 1) 0 :=
  to_slot _ _ (next_offs0 t).2.1 h
@[sl_canon] theorem next_blk0 (t : Fin grid0.N) (h) :
    (xHbm.slice (Rect.unit (s := S50000x9x128) (k0_off9 (grid0.coords t)) S512x1x128.size h) (fun _ => rfl)).squeeze S512x128 squeezes_S512x1x128_S512x128 = blk (t.val + 1) 0 :=
  to_blk _ _ (next_offs0 t).2.2 h
@[sl_canon] theorem next_cell1 (t : Fin grid0.N) (h) :
    (cc0_scratch1.slice (Rect.unit (s := S2x6) (k0_off10 (grid0.coords t)) S1x1.size h)).squeeze S_ squeezes_S1x1_S_ = cellA (t.val + 1) 1 :=
  to_cell _ _ (next_offs1 t).1 h
@[sl_canon] theorem next_slot1 (t : Fin grid0.N) (h) :
    (ringBuf.slice (Rect.unit (s := S2x6x512x128) (k0_off11 (grid0.coords t)) S1x1x512x128.size h) (fun _ => rfl)).squeeze S512x128 squeezes_S1x1x512x128_S512x128 = slot (t.val + 1) 1 :=
  to_slot _ _ (next_offs1 t).2.1 h
@[sl_canon] theorem next_blk1 (t : Fin grid0.N) (h) :
    (xHbm.slice (Rect.unit (s := S50000x9x128) (k0_off12 (grid0.coords t)) S512x1x128.size h) (fun _ => rfl)).squeeze S512x128 squeezes_S512x1x128_S512x128 = blk (t.val + 1) 1 :=
  to_blk _ _ (next_offs1 t).2.2 h
@[sl_canon] theorem next_cell2 (t : Fin grid0.N) (h) :
    (cc0_scratch1.slice (Rect.unit (s := S2x6) (k0_off13 (grid0.coords t)) S1x1.size h)).squeeze S_ squeezes_S1x1_S_ = cellA (t.val + 1) 2 :=
  to_cell _ _ (next_offs2 t).1 h
@[sl_canon] theorem next_slot2 (t : Fin grid0.N) (h) :
    (ringBuf.slice (Rect.unit (s := S2x6x512x128) (k0_off14 (grid0.coords t)) S1x1x512x128.size h) (fun _ => rfl)).squeeze S512x128 squeezes_S1x1x512x128_S512x128 = slot (t.val + 1) 2 :=
  to_slot _ _ (next_offs2 t).2.1 h
@[sl_canon] theorem next_blk2 (t : Fin grid0.N) (h) :
    (xHbm.slice (Rect.unit (s := S50000x9x128) (k0_off15 (grid0.coords t)) S512x1x128.size h) (fun _ => rfl)).squeeze S512x128 squeezes_S512x1x128_S512x128 = blk (t.val + 1) 2 :=
  to_blk _ _ (next_offs2 t).2.2 h
@[sl_canon] theorem next_cell3 (t : Fin grid0.N) (h) :
    (cc0_scratch1.slice (Rect.unit (s := S2x6) (k0_off16 (grid0.coords t)) S1x1.size h)).squeeze S_ squeezes_S1x1_S_ = cellA (t.val + 1) 3 :=
  to_cell _ _ (next_offs3 t).1 h
@[sl_canon] theorem next_slot3 (t : Fin grid0.N) (h) :
    (ringBuf.slice (Rect.unit (s := S2x6x512x128) (k0_off17 (grid0.coords t)) S1x1x512x128.size h) (fun _ => rfl)).squeeze S512x128 squeezes_S1x1x512x128_S512x128 = slot (t.val + 1) 3 :=
  to_slot _ _ (next_offs3 t).2.1 h
@[sl_canon] theorem next_blk3 (t : Fin grid0.N) (h) :
    (xHbm.slice (Rect.unit (s := S50000x9x128) (k0_off18 (grid0.coords t)) S512x1x128.size h) (fun _ => rfl)).squeeze S512x128 squeezes_S512x1x128_S512x128 = blk (t.val + 1) 3 :=
  to_blk _ _ (next_offs3 t).2.2 h
@[sl_canon] theorem next_cell4 (t : Fin grid0.N) (h) :
    (cc0_scratch1.slice (Rect.unit (s := S2x6) (k0_off19 (grid0.coords t)) S1x1.size h)).squeeze S_ squeezes_S1x1_S_ = cellA (t.val + 1) 4 :=
  to_cell _ _ (next_offs4 t).1 h
@[sl_canon] theorem next_slot4 (t : Fin grid0.N) (h) :
    (ringBuf.slice (Rect.unit (s := S2x6x512x128) (k0_off20 (grid0.coords t)) S1x1x512x128.size h) (fun _ => rfl)).squeeze S512x128 squeezes_S1x1x512x128_S512x128 = slot (t.val + 1) 4 :=
  to_slot _ _ (next_offs4 t).2.1 h
@[sl_canon] theorem next_blk4 (t : Fin grid0.N) (h) :
    (xHbm.slice (Rect.unit (s := S50000x9x128) (k0_off21 (grid0.coords t)) S512x1x128.size h) (fun _ => rfl)).squeeze S512x128 squeezes_S512x1x128_S512x128 = blk (t.val + 1) 4 :=
  to_blk _ _ (next_offs4 t).2.2 h
@[sl_canon] theorem next_cell5 (t : Fin grid0.N) (h) :
    (cc0_scratch1.slice (Rect.unit (s := S2x6) (k0_off22 (grid0.coords t)) S1x1.size h)).squeeze S_ squeezes_S1x1_S_ = cellA (t.val + 1) 5 :=
  to_cell _ _ (next_offs5 t).1 h
@[sl_canon] theorem next_slot5 (t : Fin grid0.N) (h) :
    (ringBuf.slice (Rect.unit (s := S2x6x512x128) (k0_off23 (grid0.coords t)) S1x1x512x128.size h) (fun _ => rfl)).squeeze S512x128 squeezes_S1x1x512x128_S512x128 = slot (t.val + 1) 5 :=
  to_slot _ _ (next_offs5 t).2.1 h
@[sl_canon] theorem next_blk5 (t : Fin grid0.N) (h) :
    (xHbm.slice (Rect.unit (s := S50000x9x128) (k0_off24 (grid0.coords t)) S512x1x128.size h) (fun _ => rfl)).squeeze S512x128 squeezes_S512x1x128_S512x128 = blk (t.val + 1) 5 :=
  to_blk _ _ (next_offs5 t).2.2 h

/-! ## A point waits for its own block and reads it -/

theorem own_offs0 : ∀ t : Fin grid0.N, k0_off25 (grid0.coords t) = ![t.val % 2, 0] ∧ k0_off26 (grid0.coords t) = ![t.val % 2, 0, 0, 0]
    ∧ k0_off27 (grid0.coords t) = ![blkRow t.val, 0, 0] ∧ k0_off43 (grid0.coords t) = ![t.val % 2, 0, 0, 0] := by decide +kernel
theorem own_offs1 : ∀ t : Fin grid0.N, k0_off28 (grid0.coords t) = ![t.val % 2, 1] ∧ k0_off29 (grid0.coords t) = ![t.val % 2, 1, 0, 0]
    ∧ k0_off30 (grid0.coords t) = ![blkRow t.val, 4, 0] ∧ k0_off44 (grid0.coords t) = ![t.val % 2, 1, 0, 0] := by decide +kernel
theorem own_offs2 : ∀ t : Fin grid0.N, k0_off31 (grid0.coords t) = ![t.val % 2, 2] ∧ k0_off32 (grid0.coords t) = ![t.val % 2, 2, 0, 0]
    ∧ k0_off33 (grid0.coords t) = ![blkRow t.val, 5, 0] ∧ k0_off45 (grid0.coords t) = ![t.val % 2, 2, 0, 0] := by decide +kernel
theorem own_offs3 : ∀ t : Fin grid0.N, k0_off34 (grid0.coords t) = ![t.val % 2, 3] ∧ k0_off35 (grid0.coords t) = ![t.val % 2, 3, 0, 0]
    ∧ k0_off36 (grid0.coords t) = ![blkRow t.val, 6, 0] ∧ k0_off46 (grid0.coords t) = ![t.val % 2, 3, 0, 0] := by decide +kernel
theorem own_offs4 : ∀ t : Fin grid0.N, k0_off37 (grid0.coords t) = ![t.val % 2, 4] ∧ k0_off38 (grid0.coords t) = ![t.val % 2, 4, 0, 0]
    ∧ k0_off39 (grid0.coords t) = ![blkRow t.val, 7, 0] ∧ k0_off47 (grid0.coords t) = ![t.val % 2, 4, 0, 0] := by decide +kernel
theorem own_offs5 : ∀ t : Fin grid0.N, k0_off40 (grid0.coords t) = ![t.val % 2, 5] ∧ k0_off41 (grid0.coords t) = ![t.val % 2, 5, 0, 0]
    ∧ k0_off42 (grid0.coords t) = ![blkRow t.val, 8, 0] ∧ k0_off48 (grid0.coords t) = ![t.val % 2, 5, 0, 0] := by decide +kernel
@[sl_canon] theorem own_cell0 (t : Fin grid0.N) (h) :
    (cc0_scratch1.slice (Rect.unit (s := S2x6) (k0_off25 (grid0.coords t)) S1x1.size h)).squeeze S_ squeezes_S1x1_S_ = cellA t.val 0 :=
  to_cell _ _ (own_offs0 t).1 h
@[sl_canon] theorem own_slot0 (t : Fin grid0.N) (h) :
    (ringBuf.slice (Rect.unit (s := S2x6x512x128) (k0_off26 (grid0.coords t)) S1x1x512x128.size h) (fun _ => rfl)).squeeze S512x128 squeezes_S1x1x512x128_S512x128 = slot t.val 0 :=
  to_slot _ _ (own_offs0 t).2.1 h
@[sl_canon] theorem own_blk0 (t : Fin grid0.N) (h) :
    (xHbm.slice (Rect.unit (s := S50000x9x128) (k0_off27 (grid0.coords t)) S512x1x128.size h) (fun _ => rfl)).squeeze S512x128 squeezes_S512x1x128_S512x128 = blk t.val 0 :=
  to_blk _ _ (own_offs0 t).2.2.1 h
@[sl_canon] theorem own_cell1 (t : Fin grid0.N) (h) :
    (cc0_scratch1.slice (Rect.unit (s := S2x6) (k0_off28 (grid0.coords t)) S1x1.size h)).squeeze S_ squeezes_S1x1_S_ = cellA t.val 1 :=
  to_cell _ _ (own_offs1 t).1 h
@[sl_canon] theorem own_slot1 (t : Fin grid0.N) (h) :
    (ringBuf.slice (Rect.unit (s := S2x6x512x128) (k0_off29 (grid0.coords t)) S1x1x512x128.size h) (fun _ => rfl)).squeeze S512x128 squeezes_S1x1x512x128_S512x128 = slot t.val 1 :=
  to_slot _ _ (own_offs1 t).2.1 h
@[sl_canon] theorem own_blk1 (t : Fin grid0.N) (h) :
    (xHbm.slice (Rect.unit (s := S50000x9x128) (k0_off30 (grid0.coords t)) S512x1x128.size h) (fun _ => rfl)).squeeze S512x128 squeezes_S512x1x128_S512x128 = blk t.val 1 :=
  to_blk _ _ (own_offs1 t).2.2.1 h
@[sl_canon] theorem own_cell2 (t : Fin grid0.N) (h) :
    (cc0_scratch1.slice (Rect.unit (s := S2x6) (k0_off31 (grid0.coords t)) S1x1.size h)).squeeze S_ squeezes_S1x1_S_ = cellA t.val 2 :=
  to_cell _ _ (own_offs2 t).1 h
@[sl_canon] theorem own_slot2 (t : Fin grid0.N) (h) :
    (ringBuf.slice (Rect.unit (s := S2x6x512x128) (k0_off32 (grid0.coords t)) S1x1x512x128.size h) (fun _ => rfl)).squeeze S512x128 squeezes_S1x1x512x128_S512x128 = slot t.val 2 :=
  to_slot _ _ (own_offs2 t).2.1 h
@[sl_canon] theorem own_blk2 (t : Fin grid0.N) (h) :
    (xHbm.slice (Rect.unit (s := S50000x9x128) (k0_off33 (grid0.coords t)) S512x1x128.size h) (fun _ => rfl)).squeeze S512x128 squeezes_S512x1x128_S512x128 = blk t.val 2 :=
  to_blk _ _ (own_offs2 t).2.2.1 h
@[sl_canon] theorem own_cell3 (t : Fin grid0.N) (h) :
    (cc0_scratch1.slice (Rect.unit (s := S2x6) (k0_off34 (grid0.coords t)) S1x1.size h)).squeeze S_ squeezes_S1x1_S_ = cellA t.val 3 :=
  to_cell _ _ (own_offs3 t).1 h
@[sl_canon] theorem own_slot3 (t : Fin grid0.N) (h) :
    (ringBuf.slice (Rect.unit (s := S2x6x512x128) (k0_off35 (grid0.coords t)) S1x1x512x128.size h) (fun _ => rfl)).squeeze S512x128 squeezes_S1x1x512x128_S512x128 = slot t.val 3 :=
  to_slot _ _ (own_offs3 t).2.1 h
@[sl_canon] theorem own_blk3 (t : Fin grid0.N) (h) :
    (xHbm.slice (Rect.unit (s := S50000x9x128) (k0_off36 (grid0.coords t)) S512x1x128.size h) (fun _ => rfl)).squeeze S512x128 squeezes_S512x1x128_S512x128 = blk t.val 3 :=
  to_blk _ _ (own_offs3 t).2.2.1 h
@[sl_canon] theorem own_cell4 (t : Fin grid0.N) (h) :
    (cc0_scratch1.slice (Rect.unit (s := S2x6) (k0_off37 (grid0.coords t)) S1x1.size h)).squeeze S_ squeezes_S1x1_S_ = cellA t.val 4 :=
  to_cell _ _ (own_offs4 t).1 h
@[sl_canon] theorem own_slot4 (t : Fin grid0.N) (h) :
    (ringBuf.slice (Rect.unit (s := S2x6x512x128) (k0_off38 (grid0.coords t)) S1x1x512x128.size h) (fun _ => rfl)).squeeze S512x128 squeezes_S1x1x512x128_S512x128 = slot t.val 4 :=
  to_slot _ _ (own_offs4 t).2.1 h
@[sl_canon] theorem own_blk4 (t : Fin grid0.N) (h) :
    (xHbm.slice (Rect.unit (s := S50000x9x128) (k0_off39 (grid0.coords t)) S512x1x128.size h) (fun _ => rfl)).squeeze S512x128 squeezes_S512x1x128_S512x128 = blk t.val 4 :=
  to_blk _ _ (own_offs4 t).2.2.1 h
@[sl_canon] theorem own_cell5 (t : Fin grid0.N) (h) :
    (cc0_scratch1.slice (Rect.unit (s := S2x6) (k0_off40 (grid0.coords t)) S1x1.size h)).squeeze S_ squeezes_S1x1_S_ = cellA t.val 5 :=
  to_cell _ _ (own_offs5 t).1 h
@[sl_canon] theorem own_slot5 (t : Fin grid0.N) (h) :
    (ringBuf.slice (Rect.unit (s := S2x6x512x128) (k0_off41 (grid0.coords t)) S1x1x512x128.size h) (fun _ => rfl)).squeeze S512x128 squeezes_S1x1x512x128_S512x128 = slot t.val 5 :=
  to_slot _ _ (own_offs5 t).2.1 h
@[sl_canon] theorem own_blk5 (t : Fin grid0.N) (h) :
    (xHbm.slice (Rect.unit (s := S50000x9x128) (k0_off42 (grid0.coords t)) S512x1x128.size h) (fun _ => rfl)).squeeze S512x128 squeezes_S512x1x128_S512x128 = blk t.val 5 :=
  to_blk _ _ (own_offs5 t).2.2.1 h
instance (priority := high) load_off0 (t : Fin grid0.N) : ClosedOff (k0_off43 (grid0.coords t)) := ⟨![t.val % 2, (0 : Fin 6).val, 0, 0], (own_offs0 t).2.2.2⟩
instance (priority := high) load_off1 (t : Fin grid0.N) : ClosedOff (k0_off44 (grid0.coords t)) := ⟨![t.val % 2, (1 : Fin 6).val, 0, 0], (own_offs1 t).2.2.2⟩
instance (priority := high) load_off2 (t : Fin grid0.N) : ClosedOff (k0_off45 (grid0.coords t)) := ⟨![t.val % 2, (2 : Fin 6).val, 0, 0], (own_offs2 t).2.2.2⟩
instance (priority := high) load_off3 (t : Fin grid0.N) : ClosedOff (k0_off46 (grid0.coords t)) := ⟨![t.val % 2, (3 : Fin 6).val, 0, 0], (own_offs3 t).2.2.2⟩
instance (priority := high) load_off4 (t : Fin grid0.N) : ClosedOff (k0_off47 (grid0.coords t)) := ⟨![t.val % 2, (4 : Fin 6).val, 0, 0], (own_offs4 t).2.2.2⟩
instance (priority := high) load_off5 (t : Fin grid0.N) : ClosedOff (k0_off48 (grid0.coords t)) := ⟨![t.val % 2, (5 : Fin 6).val, 0, 0], (own_offs5 t).2.2.2⟩

end Cert.KernelIdeal.Flow

end
-- ==== Proof.IValue.lean ====
/- What the body computes at a point, as one function of what it reads: the step of the accumulator and the last point's result,
   in the printed payloads; and small facts about reading back what was stored. -/
module

public import proofs.«01_k».proof.Proof.INames
public import Idealize.ShloMosaic.Lib.Pipeline.Value

@[expose] public section

set_option maxRecDepth 16384

noncomputable section

namespace Cert.KernelIdeal.Flow

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Plane `p` of block `k` as a load of its landed slot reads it. -/
def plane (c : Dev nD) (W : Cont (F := F) c xHbm) (k : ℕ) (p : Fin 6) : Vec F S1x1x512x128 .f32 :=
  View.readAt (Elt F) ringBuf.view (Rect.unit (s := S2x6x512x128) ![k % 2, p.val, 0, 0] S1x1x512x128.size (slot_inb k p)).toLoadRect
    ((slot k p).view.writes (Elt F) (slot k p).view.junk
      [⟨Rect.whole S512x128, ReadAs.same.apply (View.read (Elt F) (blk k p).view W)⟩])

/-- A load of the landed slot at offsets equal to the slot's is that plane. -/
theorem load_plane (c : Dev nD) (W : Cont (F := F) c xHbm) (k : ℕ) (p : Fin 6) {off : Fin 4 → ℕ} (e : off = ![k % 2, p.val, 0, 0])
    (h : ∀ a, off a + S1x1x512x128.size a ≤ S2x6x512x128.size a) :
    (View.readAt (Elt F) ringBuf.view (Rect.unit (s := S2x6x512x128) off S1x1x512x128.size h).toLoadRect
      ((slot k p).view.writes (Elt F) (slot k p).view.junk
        [⟨Rect.whole S512x128, ReadAs.same.apply (View.read (Elt F) (blk k p).view W)⟩]) : Vec F S1x1x512x128 .f32) = plane c W k p := by
  subst e; rfl

/-- The accumulator after a point, from the grid coordinate, the node ids of the block, the network's weights and the six planes. -/
def accStep (i : BitVec 32) (ids : Vec F S1x1x512 .i32) (w1 w2 : Vec F S128x128 .f32) (b1 b2 w3 wr : Vec F S1x128 .f32)
    (P : Fin 6 → Vec F S1x1x512x128 .f32) (a : Vec F S512x8 .f32) : Vec F S512x8 .f32 :=
  k0_pay10 (k0_pay3 i 512#32) (k0_pay4 i 512#32 (P 0) w1 b1 w2 b2 w3) (k0_pay5 wr) (k0_pay6 (k0_pay3 i 512#32) wr (P 1))
    (k0_pay7 (k0_pay3 i 512#32) wr (P 2)) (k0_pay8 (k0_pay3 i 512#32) wr (P 3)) (k0_pay9 (k0_pay3 i 512#32) (P 4)) (P 5) ids a

/-- That step from loads that are the named arrays. -/
theorem accStep_eq {i : BitVec 32} {ids ids' : Vec F S1x1x512 .i32} {w1 w1' w2 w2' : Vec F S128x128 .f32} {b1 b1' b2 b2' w3 w3' wr wa wb wc wd : Vec F S1x128 .f32}
    {P : Fin 6 → Vec F S1x1x512x128 .f32} {p0 p1 p2 p3 p4 p5 : Vec F S1x1x512x128 .f32} {a a' : Vec F S512x8 .f32}
    (e0 : p0 = P 0) (f1 : w1' = w1) (f3 : b1' = b1) (f2 : w2' = w2) (f4 : b2' = b2) (f5 : w3' = w3)
    (ga : wa = wr) (gb : wb = wr) (gc : wc = wr) (gd : wd = wr) (e1 : p1 = P 1) (e2 : p2 = P 2) (e3 : p3 = P 3) (e4 : p4 = P 4) (e5 : p5 = P 5)
    (h0 : ids' = ids) (ha : a' = a) :
    k0_pay10 (k0_pay3 i 512#32) (k0_pay4 i 512#32 p0 w1' b1' w2' b2' w3') (k0_pay5 wa) (k0_pay6 (k0_pay3 i 512#32) wb p1)
      (k0_pay7 (k0_pay3 i 512#32) wc p2) (k0_pay8 (k0_pay3 i 512#32) wd p3) (k0_pay9 (k0_pay3 i 512#32) p4) p5 ids' a'
      = accStep i ids w1 w2 b1 b2 w3 wr P a := by
  subst e0 f1 f3 f2 f4 f5 ga gb gc gd e1 e2 e3 e4 e5 h0 ha; rfl

theorem zero2 : (![0, 0] : Fin 2 → Nat) = fun _ => 0 := funext fun a => by fin_cases a <;> rfl
theorem zero3 : (![0, 0, 0] : Fin 3 → Nat) = fun _ => 0 := funext fun a => by fin_cases a <;> rfl

omit [FloatOps F] in
/-- A buffer held whole at what `x` reads back to is owned at `x`. -/
theorem owns_unread {sp : Space} {S : Shape} {e : EltTy} {M : Memref sig .tc sp S e} (h : M.IsWhole) (c : Dev nD) (x : S.Idx → Elt F e) :
    (M.view.loc (c : Thread nD τ) ↦[M.view.set]{fullShare} h.unread x : sProp 𝕄) ⊢ owns (c : Thread nD τ) M fullShare x := by
  unfold owns
  iintro H; iexists _; isplitr; · ipureintro; exact h.read_unread _
  iexact H

omit [FloatOps F] in
/-- A store through the whole view, made last, is what the view reads. -/
theorem read_store_zero {κ : Kind} {sp : Space} {S : Shape} {e : EltTy} (v : View sig κ sp S e) {off : Fin S.rank → Nat} (h : off = fun _ => 0)
    (inb : ∀ a, off a + S.size a ≤ S.size a) (f : v.ty.Contents (Elt F)) (w : S.Idx → Elt F e) (L : List (View.Piece (Elt F) S e)) :
    v.read (Elt F) (v.writes (Elt F) f (⟨Rect.unit off S.size inb, w⟩ :: L)) = w := by
  subst h; funext y
  have := View.read_writes_cons_emb v f (Rect.whole S) w L y
  rwa [Rect.emb_whole_apply] at this

omit [FloatOps F] in
/-- A load of a whole view at zero offsets reads what the buffer holds. -/
theorem load_unread {sp : Space} {S : Shape} {e : EltTy} {M : Memref sig .tc sp S e} (h : M.IsWhole) {off : Fin S.rank → Nat} (hz : off = fun _ => 0)
    (inb : ∀ a, off a + S.size a ≤ S.size a) (x : S.Idx → Elt F e) :
    (View.readAt (Elt F) M.view (Rect.unit off S.size inb).toLoadRect (h.unread x) : S.Idx → Elt F e) = x := by
  rw [View.readAt_eq_ld, h.read_unread, View.ld_unit_zero hz]

omit [FloatOps F] in
/-- A load of a whole view after a whole store reads what was stored. -/
theorem load_store {sp : Space} {S : Shape} {e : EltTy} (v : View sig .tc sp S e) {off off' : Fin S.rank → Nat} (hz : off = fun _ => 0)
    (hz' : off' = fun _ => 0) (inb : ∀ a, off a + S.size a ≤ S.size a) (inb' : ∀ a, off' a + S.size a ≤ S.size a) (f : v.ty.Contents (Elt F))
    (w : S.Idx → Elt F e) (L : List (View.Piece (Elt F) S e)) :
    (View.readAt (Elt F) v (Rect.unit off S.size inb).toLoadRect (v.writes (Elt F) f (⟨Rect.unit off' S.size inb', w⟩ :: L)) : S.Idx → Elt F e) = w := by
  rw [View.readAt_eq_ld, read_store_zero v hz', View.ld_unit_zero hz]

section
variable (c : Dev nD) (W : Cont (F := F) c xHbm)
/-- After its wait a slot is idle again: its cell at zero, the slot at the landed plane, its copy of the operand whole. -/
theorem idle_landed (k : ℕ) (p : Fin 6) (f : Cont (F := F) c (slot k p)) :
    iprop(cellP c k p ∗ slotP c k p f ∗ blkP c W k p ∗ restP c W k p) ⊢ idle1 c W k p := by
  iintro ⟨Hc, Hs, Hb, Hr⟩
  isplitl [Hc]; · iexact Hc
  isplitl [Hs]; · iexists _; iexact Hs
  iapply (blk_split c W k p).2; isplitl [Hb]; · iexact Hb
  iexact Hr
end

end Cert.KernelIdeal.Flow

end
-- ==== Proof.IRunFirst.lean ====
/- The body at the first point: it zeroes the accumulator, starts the copies of its own block and of the next, waits for those of
   its own, and adds its block's segment sums to the accumulator. -/
module

public import proofs.«01_k».proof.Proof.IValue

@[expose] public section

set_option maxRecDepth 16384

noncomputable section

namespace Cert.KernelIdeal.Flow

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
/-- The first point: both halves of the ring are idle; afterwards block 1 is in flight, and the accumulator holds the point's
    step from zero. -/
theorem run_first (c : Dev nD) (arg2 : Memref sig .tc .vmem S1x1x512 .i32) (harg2 : arg2.IsWhole) (arg3 : Memref sig .tc .vmem S128x128 .f32) (harg3 : arg3.IsWhole)
     (arg4 : Memref sig .tc .vmem S128x128 .f32) (harg4 : arg4.IsWhole) (arg5 : Memref sig .tc .vmem S1x128 .f32) (harg5 : arg5.IsWhole)
     (arg6 : Memref sig .tc .vmem S1x128 .f32) (harg6 : arg6.IsWhole) (arg7 : Memref sig .tc .vmem S1x128 .f32) (harg7 : arg7.IsWhole)
     (arg8 : Memref sig .tc .vmem S1x128 .f32) (harg8 : arg8.IsWhole) (arg9 : Memref sig .tc .vmem S512x8 .f32) (harg9 : arg9.IsWhole)
     (arg10 : Memref sig .tc .vmem S1x8 .f32) (harg10 : arg10.IsWhole) (arg11 : Memref sig .tc .vmem S8x128 .f32) (harg11 : arg11.IsWhole)
    (arg12 : Memref sig .tc .vmem S512x128 .f32) (harg12 : arg12.IsWhole) (arg15 : Memref sig .tc .vmem S512x8 .f32) (harg15 : arg15.IsWhole)
    (hc1 : k0_cond1 (grid0.coords firstPt) = 1#1) (hc2 : k0_cond2 (grid0.coords firstPt) = 1#1) (hc3 : ¬k0_cond3 (grid0.coords firstPt) = 1#1)
    (x0 : Vec F S1x1x512 .i32) (x1 : Vec F S128x128 .f32) (x2 : Vec F S128x128 .f32) (x3 : Vec F S1x128 .f32) (x4 : Vec F S1x128 .f32) (x5 : Vec F S1x128 .f32) (x6 : Vec F S1x128 .f32) (x7 : Vec F S512x8 .f32) (x8 : Vec F S1x8 .f32) (x9 : Vec F S8x128 .f32) (o : Vec F S512x128 .f32) (W : Cont (F := F) c xHbm) :
    ∀ (Ws : Waits sig Unit) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare o ∗ (∃ d, owns (c : Thread nD τ) arg15 fullShare d)
          ∗ idle c W firstPt.val ∗ idle c W (firstPt.val + 1) ∗ owes (c : Thread nD τ) 0 Ws
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare o ∗ owns (c : Thread nD τ) arg15 fullShare (accStep (BitVec.ofNat 32 (grid0.coords firstPt 0).val) x0 x1 x2 x3 x4 x5 x6 (plane c W firstPt.val) k0_pay2)
              ∗ fly c W (firstPt.val + 1) ∗ idle c W firstPt.val ∗ (∃ Ws', owes (c : Thread nD τ) 0 Ws')) -∗ K ⟨⟩))
        ⊢ wp frame (wpE (defs₀ (F := F)) Variants.none c none) Set.univ (cc0_body (grid0.coords firstPt) (Memref.whole main_arg0) (Memref.isWhole_whole _) arg2 harg2 arg3 harg3 arg4 harg4 arg5 harg5 arg6 harg6 arg7 harg7 arg8 harg8 arg9 harg9 arg10 harg10 arg11 harg11 arg12 harg12 ringBuf (Memref.isWhole_whole _) cc0_scratch1 arg15 harg15) K := by
    intro Ws K
    haveI : Fact (k0_cond1 (grid0.coords firstPt) = 1#1) := ⟨hc1⟩
    haveI : Fact (k0_cond2 (grid0.coords firstPt) = 1#1) := ⟨hc2⟩
    haveI : Fact (¬k0_cond3 (grid0.coords firstPt) = 1#1) := ⟨hc3⟩
    simp only [cc0_body_eq_skeleton]; unfold cc0_body_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d, %fa, %hfa, Ha⟩, ⟨⟨Hcm0, ⟨%sm0, Hsm0⟩, Hwm0⟩, ⟨Hcm1, ⟨%sm1, Hsm1⟩, Hwm1⟩, ⟨Hcm2, ⟨%sm2, Hsm2⟩, Hwm2⟩, ⟨Hcm3, ⟨%sm3, Hsm3⟩, Hwm3⟩, ⟨Hcm4, ⟨%sm4, Hsm4⟩, Hwm4⟩, ⟨Hcm5, ⟨%sm5, Hsm5⟩, Hwm5⟩⟩, ⟨⟨Hcn0, ⟨%sn0, Hsn0⟩, Hwn0⟩, ⟨Hcn1, ⟨%sn1, Hsn1⟩, Hwn1⟩, ⟨Hcn2, ⟨%sn2, Hsn2⟩, Hwn2⟩, ⟨Hcn3, ⟨%sn3, Hsn3⟩, Hwn3⟩, ⟨Hcn4, ⟨%sn4, Hsn4⟩, Hwn4⟩, ⟨Hcn5, ⟨%sn5, Hsn5⟩, Hwn5⟩⟩, HW, Hk⟩
    ihave Hsp := (blk_split c W firstPt.val 0).1 $$ Hwm0
    icases Hsp with ⟨Hhm0, Hqm0⟩
    ihave Hsp := (blk_split c W firstPt.val 1).1 $$ Hwm1
    icases Hsp with ⟨Hhm1, Hqm1⟩
    ihave Hsp := (blk_split c W firstPt.val 2).1 $$ Hwm2
    icases Hsp with ⟨Hhm2, Hqm2⟩
    ihave Hsp := (blk_split c W firstPt.val 3).1 $$ Hwm3
    icases Hsp with ⟨Hhm3, Hqm3⟩
    ihave Hsp := (blk_split c W firstPt.val 4).1 $$ Hwm4
    icases Hsp with ⟨Hhm4, Hqm4⟩
    ihave Hsp := (blk_split c W firstPt.val 5).1 $$ Hwm5
    icases Hsp with ⟨Hhm5, Hqm5⟩
    ihave Hsp := (blk_split c W (firstPt.val + 1) 0).1 $$ Hwn0
    icases Hsp with ⟨Hhn0, Hqn0⟩
    ihave Hsp := (blk_split c W (firstPt.val + 1) 1).1 $$ Hwn1
    icases Hsp with ⟨Hhn1, Hqn1⟩
    ihave Hsp := (blk_split c W (firstPt.val + 1) 2).1 $$ Hwn2
    icases Hsp with ⟨Hhn2, Hqn2⟩
    ihave Hsp := (blk_split c W (firstPt.val + 1) 3).1 $$ Hwn3
    icases Hsp with ⟨Hhn3, Hqn3⟩
    ihave Hsp := (blk_split c W (firstPt.val + 1) 4).1 $$ Hwn4
    icases Hsp with ⟨Hhn4, Hqn4⟩
    ihave Hsp := (blk_split c W (firstPt.val + 1) 5).1 $$ Hwn5
    icases Hsp with ⟨Hhn5, Hqn5⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact hf10
      iexact H10
    isplitl [Ha]
    · iexists _; isplitr; swap; · iexact Ha
      ipureintro
      refine (read_store_zero arg15.view zero2 _ _ _ _).trans ?_
      sl_unfold_words
      refine accStep_eq (load_plane c W _ 0 (own_offs0 firstPt).2.2.2 _) (load_unread harg3 zero2 _ _) (load_unread harg5 zero2 _ _) (load_unread harg4 zero2 _ _) (load_unread harg6 zero2 _ _) (load_unread harg7 zero2 _ _) (load_unread harg8 zero2 _ _) (load_unread harg8 zero2 _ _) (load_unread harg8 zero2 _ _) (load_unread harg8 zero2 _ _)
        (load_plane c W _ 1 (own_offs1 firstPt).2.2.2 _) (load_plane c W _ 2 (own_offs2 firstPt).2.2.2 _) (load_plane c W _ 3 (own_offs3 firstPt).2.2.2 _) (load_plane c W _ 4 (own_offs4 firstPt).2.2.2 _) (load_plane c W _ 5 (own_offs5 firstPt).2.2.2 _) (load_unread harg2 zero3 _ _) ?_
      exact load_store arg15.view zero2 zero2 _ _ _ _ _
    isplitl [Hcn0 Hqn0 Hcn1 Hqn1 Hcn2 Hqn2 Hcn3 Hqn3 Hcn4 Hqn4 Hcn5 Hqn5]
    · isplitl [Hcn0 Hqn0]
      · isplitl [Hcn0]; · iexists _; iexact Hcn0
        iexact Hqn0
      isplitl [Hcn1 Hqn1]
      · isplitl [Hcn1]; · iexists _; iexact Hcn1
        iexact Hqn1
      isplitl [Hcn2 Hqn2]
      · isplitl [Hcn2]; · iexists _; iexact Hcn2
        iexact Hqn2
      isplitl [Hcn3 Hqn3]
      · isplitl [Hcn3]; · iexists _; iexact Hcn3
        iexact Hqn3
      isplitl [Hcn4 Hqn4]
      · isplitl [Hcn4]; · iexists _; iexact Hcn4
        iexact Hqn4
      isplitl [Hcn5]; · iexists _; iexact Hcn5
      iexact Hqn5
    isplitl [Hcm0 Hsm0 Hhm0 Hqm0 Hcm1 Hsm1 Hhm1 Hqm1 Hcm2 Hsm2 Hhm2 Hqm2 Hcm3 Hsm3 Hhm3 Hqm3 Hcm4 Hsm4 Hhm4 Hqm4 Hcm5 Hsm5 Hhm5 Hqm5]
    · isplitl [Hcm0 Hsm0 Hhm0 Hqm0]
      · iapply (idle_landed c W firstPt.val 0 _); isplitl [Hcm0]; · iexact Hcm0
        isplitl [Hsm0]; · iexact Hsm0
        isplitl [Hhm0]; · iexact Hhm0
        iexact Hqm0
      isplitl [Hcm1 Hsm1 Hhm1 Hqm1]
      · iapply (idle_landed c W firstPt.val 1 _); isplitl [Hcm1]; · iexact Hcm1
        isplitl [Hsm1]; · iexact Hsm1
        isplitl [Hhm1]; · iexact Hhm1
        iexact Hqm1
      isplitl [Hcm2 Hsm2 Hhm2 Hqm2]
      · iapply (idle_landed c W firstPt.val 2 _); isplitl [Hcm2]; · iexact Hcm2
        isplitl [Hsm2]; · iexact Hsm2
        isplitl [Hhm2]; · iexact Hhm2
        iexact Hqm2
      isplitl [Hcm3 Hsm3 Hhm3 Hqm3]
      · iapply (idle_landed c W firstPt.val 3 _); isplitl [Hcm3]; · iexact Hcm3
        isplitl [Hsm3]; · iexact Hsm3
        isplitl [Hhm3]; · iexact Hhm3
        iexact Hqm3
      isplitl [Hcm4 Hsm4 Hhm4 Hqm4]
      · iapply (idle_landed c W firstPt.val 4 _); isplitl [Hcm4]; · iexact Hcm4
        isplitl [Hsm4]; · iexact Hsm4
        isplitl [Hhm4]; · iexact Hhm4
        iexact Hqm4
      iapply (idle_landed c W firstPt.val 5 _); isplitl [Hcm5]; · iexact Hcm5
      isplitl [Hsm5]; · iexact Hsm5
      isplitl [Hhm5]; · iexact Hhm5
      iexact Hqm5
    iexists _; iexact HW

end Cert.KernelIdeal.Flow

end
-- ==== Proof.IRunMid.lean ====
/- The body at a point that is neither the first nor the last: it starts the copies of the next block, waits for those of its own,
   and adds its block's segment sums to the accumulator. -/
module

public import proofs.«01_k».proof.Proof.IValue

@[expose] public section

set_option maxRecDepth 16384

noncomputable section

namespace Cert.KernelIdeal.Flow

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
/-- A middle point: block `t` is in flight and the next block's slots are idle; afterwards it is the other way round one block
    on, the accumulator has advanced by the point's step, and the output's buffer is as it was. -/
theorem run_mid (c : Dev nD) (t : Fin cfg0.N) (arg2 : Memref sig .tc .vmem S1x1x512 .i32) (harg2 : arg2.IsWhole) (arg3 : Memref sig .tc .vmem S128x128 .f32) (harg3 : arg3.IsWhole)
     (arg4 : Memref sig .tc .vmem S128x128 .f32) (harg4 : arg4.IsWhole) (arg5 : Memref sig .tc .vmem S1x128 .f32) (harg5 : arg5.IsWhole)
     (arg6 : Memref sig .tc .vmem S1x128 .f32) (harg6 : arg6.IsWhole) (arg7 : Memref sig .tc .vmem S1x128 .f32) (harg7 : arg7.IsWhole)
     (arg8 : Memref sig .tc .vmem S1x128 .f32) (harg8 : arg8.IsWhole) (arg9 : Memref sig .tc .vmem S512x8 .f32) (harg9 : arg9.IsWhole)
     (arg10 : Memref sig .tc .vmem S1x8 .f32) (harg10 : arg10.IsWhole) (arg11 : Memref sig .tc .vmem S8x128 .f32) (harg11 : arg11.IsWhole)
    (arg12 : Memref sig .tc .vmem S512x128 .f32) (harg12 : arg12.IsWhole) (arg15 : Memref sig .tc .vmem S512x8 .f32) (harg15 : arg15.IsWhole)
    (hc1 : ¬k0_cond1 (grid0.coords t) = 1#1) (hc2 : k0_cond2 (grid0.coords t) = 1#1) (hc3 : ¬k0_cond3 (grid0.coords t) = 1#1)
    (x0 : Vec F S1x1x512 .i32) (x1 : Vec F S128x128 .f32) (x2 : Vec F S128x128 .f32) (x3 : Vec F S1x128 .f32) (x4 : Vec F S1x128 .f32) (x5 : Vec F S1x128 .f32) (x6 : Vec F S1x128 .f32) (x7 : Vec F S512x8 .f32) (x8 : Vec F S1x8 .f32) (x9 : Vec F S8x128 .f32) (a : Vec F S512x8 .f32) (o : Vec F S512x128 .f32) (W : Cont (F := F) c xHbm) :
    ∀ (Ws : Waits sig Unit) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare o ∗ owns (c : Thread nD τ) arg15 fullShare a
          ∗ fly c W t.val ∗ idle c W (t.val + 1) ∗ owes (c : Thread nD τ) 0 Ws
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare o ∗ owns (c : Thread nD τ) arg15 fullShare (accStep (BitVec.ofNat 32 (grid0.coords t 0).val) x0 x1 x2 x3 x4 x5 x6 (plane c W t.val) a)
              ∗ fly c W (t.val + 1) ∗ idle c W t.val ∗ (∃ Ws', owes (c : Thread nD τ) 0 Ws')) -∗ K ⟨⟩))
        ⊢ wp frame (wpE (defs₀ (F := F)) Variants.none c none) Set.univ (cc0_body (grid0.coords t) (Memref.whole main_arg0) (Memref.isWhole_whole _) arg2 harg2 arg3 harg3 arg4 harg4 arg5 harg5 arg6 harg6 arg7 harg7 arg8 harg8 arg9 harg9 arg10 harg10 arg11 harg11 arg12 harg12 ringBuf (Memref.isWhole_whole _) cc0_scratch1 arg15 harg15) K := by
    intro Ws K
    haveI : Fact (¬k0_cond1 (grid0.coords t) = 1#1) := ⟨hc1⟩
    haveI : Fact (k0_cond2 (grid0.coords t) = 1#1) := ⟨hc2⟩
    haveI : Fact (¬k0_cond3 (grid0.coords t) = 1#1) := ⟨hc3⟩
    simp only [cc0_body_eq_skeleton]; unfold cc0_body_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fa, %hfa, Ha⟩, ⟨⟨⟨%g0, Hf0⟩, Hr0⟩, ⟨⟨%g1, Hf1⟩, Hr1⟩, ⟨⟨%g2, Hf2⟩, Hr2⟩, ⟨⟨%g3, Hf3⟩, Hr3⟩, ⟨⟨%g4, Hf4⟩, Hr4⟩, ⟨⟨%g5, Hf5⟩, Hr5⟩⟩, ⟨⟨Hcn0, ⟨%sn0, Hsn0⟩, Hwn0⟩, ⟨Hcn1, ⟨%sn1, Hsn1⟩, Hwn1⟩, ⟨Hcn2, ⟨%sn2, Hsn2⟩, Hwn2⟩, ⟨Hcn3, ⟨%sn3, Hsn3⟩, Hwn3⟩, ⟨Hcn4, ⟨%sn4, Hsn4⟩, Hwn4⟩, ⟨Hcn5, ⟨%sn5, Hsn5⟩, Hwn5⟩⟩, HW, Hk⟩
    ihave Hsp := (blk_split c W (t.val + 1) 0).1 $$ Hwn0
    icases Hsp with ⟨Hhn0, Hqn0⟩
    ihave Hsp := (blk_split c W (t.val + 1) 1).1 $$ Hwn1
    icases Hsp with ⟨Hhn1, Hqn1⟩
    ihave Hsp := (blk_split c W (t.val + 1) 2).1 $$ Hwn2
    icases Hsp with ⟨Hhn2, Hqn2⟩
    ihave Hsp := (blk_split c W (t.val + 1) 3).1 $$ Hwn3
    icases Hsp with ⟨Hhn3, Hqn3⟩
    ihave Hsp := (blk_split c W (t.val + 1) 4).1 $$ Hwn4
    icases Hsp with ⟨Hhn4, Hqn4⟩
    ihave Hsp := (blk_split c W (t.val + 1) 5).1 $$ Hwn5
    icases Hsp with ⟨Hhn5, Hqn5⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg15.eq_unread hfa
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact hf10
      iexact H10
    isplitl [Ha]
    · iexists _; isplitr; swap; · iexact Ha
      ipureintro
      refine (read_store_zero arg15.view zero2 _ _ _ _).trans ?_
      sl_unfold_words
      refine accStep_eq (load_plane c W _ 0 (own_offs0 t).2.2.2 _) (load_unread harg3 zero2 _ _) (load_unread harg5 zero2 _ _) (load_unread harg4 zero2 _ _) (load_unread harg6 zero2 _ _) (load_unread harg7 zero2 _ _) (load_unread harg8 zero2 _ _) (load_unread harg8 zero2 _ _) (load_unread harg8 zero2 _ _) (load_unread harg8 zero2 _ _)
        (load_plane c W _ 1 (own_offs1 t).2.2.2 _) (load_plane c W _ 2 (own_offs2 t).2.2.2 _) (load_plane c W _ 3 (own_offs3 t).2.2.2 _) (load_plane c W _ 4 (own_offs4 t).2.2.2 _) (load_plane c W _ 5 (own_offs5 t).2.2.2 _) (load_unread harg2 zero3 _ _) ?_
      exact load_unread harg15 zero2 _ _
    isplitl [Hcn0 Hqn0 Hcn1 Hqn1 Hcn2 Hqn2 Hcn3 Hqn3 Hcn4 Hqn4 Hcn5 Hqn5]
    · isplitl [Hcn0 Hqn0]
      · isplitl [Hcn0]; · iexists _; iexact Hcn0
        iexact Hqn0
      isplitl [Hcn1 Hqn1]
      · isplitl [Hcn1]; · iexists _; iexact Hcn1
        iexact Hqn1
      isplitl [Hcn2 Hqn2]
      · isplitl [Hcn2]; · iexists _; iexact Hcn2
        iexact Hqn2
      isplitl [Hcn3 Hqn3]
      · isplitl [Hcn3]; · iexists _; iexact Hcn3
        iexact Hqn3
      isplitl [Hcn4 Hqn4]
      · isplitl [Hcn4]; · iexists _; iexact Hcn4
        iexact Hqn4
      isplitl [Hcn5]; · iexists _; iexact Hcn5
      iexact Hqn5
    isplitl [Hf0 Hf0_dst Hf0_src Hr0 Hf1 Hf1_dst Hf1_src Hr1 Hf2 Hf2_dst Hf2_src Hr2 Hf3 Hf3_dst Hf3_src Hr3 Hf4 Hf4_dst Hf4_src Hr4 Hf5 Hf5_dst Hf5_src Hr5]
    · isplitl [Hf0 Hf0_dst Hf0_src Hr0]
      · iapply (idle_landed c W t.val 0 _); isplitl [Hf0]; · iexact Hf0
        isplitl [Hf0_dst]; · iexact Hf0_dst
        isplitl [Hf0_src]; · iexact Hf0_src
        iexact Hr0
      isplitl [Hf1 Hf1_dst Hf1_src Hr1]
      · iapply (idle_landed c W t.val 1 _); isplitl [Hf1]; · iexact Hf1
        isplitl [Hf1_dst]; · iexact Hf1_dst
        isplitl [Hf1_src]; · iexact Hf1_src
        iexact Hr1
      isplitl [Hf2 Hf2_dst Hf2_src Hr2]
      · iapply (idle_landed c W t.val 2 _); isplitl [Hf2]; · iexact Hf2
        isplitl [Hf2_dst]; · iexact Hf2_dst
        isplitl [Hf2_src]; · iexact Hf2_src
        iexact Hr2
      isplitl [Hf3 Hf3_dst Hf3_src Hr3]
      · iapply (idle_landed c W t.val 3 _); isplitl [Hf3]; · iexact Hf3
        isplitl [Hf3_dst]; · iexact Hf3_dst
        isplitl [Hf3_src]; · iexact Hf3_src
        iexact Hr3
      isplitl [Hf4 Hf4_dst Hf4_src Hr4]
      · iapply (idle_landed c W t.val 4 _); isplitl [Hf4]; · iexact Hf4
        isplitl [Hf4_dst]; · iexact Hf4_dst
        isplitl [Hf4_src]; · iexact Hf4_src
        iexact Hr4
      iapply (idle_landed c W t.val 5 _); isplitl [Hf5]; · iexact Hf5
      isplitl [Hf5_dst]; · iexact Hf5_dst
      isplitl [Hf5_src]; · iexact Hf5_src
      iexact Hr5
    iexists _; iexact HW

end Cert.KernelIdeal.Flow

end
-- ==== Proof.IRunLast.lean ====
/- The body at the last point: it waits for the copies of its block, adds the block's segment sums to the accumulator, and writes
   the result from the finished accumulator. -/
module

public import proofs.«01_k».proof.Proof.IValue

@[expose] public section

set_option maxRecDepth 16384

noncomputable section

namespace Cert.KernelIdeal.Flow

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
/-- The last point: its block is in flight; afterwards the ring is idle, the accumulator has advanced by the point's step, and the
    output's buffer holds the result made from it. -/
theorem run_last (c : Dev nD) (t : Fin cfg0.N) (arg2 : Memref sig .tc .vmem S1x1x512 .i32) (harg2 : arg2.IsWhole) (arg3 : Memref sig .tc .vmem S128x128 .f32) (harg3 : arg3.IsWhole)
     (arg4 : Memref sig .tc .vmem S128x128 .f32) (harg4 : arg4.IsWhole) (arg5 : Memref sig .tc .vmem S1x128 .f32) (harg5 : arg5.IsWhole)
     (arg6 : Memref sig .tc .vmem S1x128 .f32) (harg6 : arg6.IsWhole) (arg7 : Memref sig .tc .vmem S1x128 .f32) (harg7 : arg7.IsWhole)
     (arg8 : Memref sig .tc .vmem S1x128 .f32) (harg8 : arg8.IsWhole) (arg9 : Memref sig .tc .vmem S512x8 .f32) (harg9 : arg9.IsWhole)
     (arg10 : Memref sig .tc .vmem S1x8 .f32) (harg10 : arg10.IsWhole) (arg11 : Memref sig .tc .vmem S8x128 .f32) (harg11 : arg11.IsWhole)
    (arg12 : Memref sig .tc .vmem S512x128 .f32) (harg12 : arg12.IsWhole) (arg15 : Memref sig .tc .vmem S512x8 .f32) (harg15 : arg15.IsWhole)
    (hc1 : ¬k0_cond1 (grid0.coords t) = 1#1) (hc2 : ¬k0_cond2 (grid0.coords t) = 1#1) (hc3 : k0_cond3 (grid0.coords t) = 1#1)
    (x0 : Vec F S1x1x512 .i32) (x1 : Vec F S128x128 .f32) (x2 : Vec F S128x128 .f32) (x3 : Vec F S1x128 .f32) (x4 : Vec F S1x128 .f32) (x5 : Vec F S1x128 .f32) (x6 : Vec F S1x128 .f32) (x7 : Vec F S512x8 .f32) (x8 : Vec F S1x8 .f32) (x9 : Vec F S8x128 .f32) (a : Vec F S512x8 .f32) (W : Cont (F := F) c xHbm) :
    ∀ (Ws : Waits sig Unit) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg15 fullShare a
          ∗ fly c W t.val ∗ idle c W (t.val + 1) ∗ owes (c : Thread nD τ) 0 Ws
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (k0_pay1 (accStep (BitVec.ofNat 32 (grid0.coords t 0).val) x0 x1 x2 x3 x4 x5 x6 (plane c W t.val) a) x7 x8 x9) ∗ owns (c : Thread nD τ) arg15 fullShare (accStep (BitVec.ofNat 32 (grid0.coords t 0).val) x0 x1 x2 x3 x4 x5 x6 (plane c W t.val) a)
              ∗ idle c W t.val ∗ idle c W (t.val + 1) ∗ (∃ Ws', owes (c : Thread nD τ) 0 Ws')) -∗ K ⟨⟩))
        ⊢ wp frame (wpE (defs₀ (F := F)) Variants.none c none) Set.univ (cc0_body (grid0.coords t) (Memref.whole main_arg0) (Memref.isWhole_whole _) arg2 harg2 arg3 harg3 arg4 harg4 arg5 harg5 arg6 harg6 arg7 harg7 arg8 harg8 arg9 harg9 arg10 harg10 arg11 harg11 arg12 harg12 ringBuf (Memref.isWhole_whole _) cc0_scratch1 arg15 harg15) K := by
    intro Ws K
    haveI : Fact (¬k0_cond1 (grid0.coords t) = 1#1) := ⟨hc1⟩
    haveI : Fact (¬k0_cond2 (grid0.coords t) = 1#1) := ⟨hc2⟩
    haveI : Fact (k0_cond3 (grid0.coords t) = 1#1) := ⟨hc3⟩
    simp only [cc0_body_eq_skeleton]; unfold cc0_body_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d, %f10, %hf10, H10⟩, ⟨%fa, %hfa, Ha⟩, ⟨⟨⟨%g0, Hf0⟩, Hr0⟩, ⟨⟨%g1, Hf1⟩, Hr1⟩, ⟨⟨%g2, Hf2⟩, Hr2⟩, ⟨⟨%g3, Hf3⟩, Hr3⟩, ⟨⟨%g4, Hf4⟩, Hr4⟩, ⟨⟨%g5, Hf5⟩, Hr5⟩⟩, ⟨⟨Hcn0, ⟨%sn0, Hsn0⟩, Hwn0⟩, ⟨Hcn1, ⟨%sn1, Hsn1⟩, Hwn1⟩, ⟨Hcn2, ⟨%sn2, Hsn2⟩, Hwn2⟩, ⟨Hcn3, ⟨%sn3, Hsn3⟩, Hwn3⟩, ⟨Hcn4, ⟨%sn4, Hsn4⟩, Hwn4⟩, ⟨Hcn5, ⟨%sn5, Hsn5⟩, Hwn5⟩⟩, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg15.eq_unread hfa
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; swap; · iexact H10
      ipureintro
      refine (read_store_zero arg12.view zero2 _ _ _ _).trans ?_
      sl_unfold_words
      refine congr (congr (congr (congrArg k0_pay1 ((load_store arg15.view zero2 zero2 _ _ _ _ _).trans ?_)) (load_unread harg9 zero2 _ _)) (load_unread harg10 zero2 _ _)) (load_unread harg11 zero2 _ _)
      refine accStep_eq (load_plane c W _ 0 (own_offs0 t).2.2.2 _) (load_unread harg3 zero2 _ _) (load_unread harg5 zero2 _ _) (load_unread harg4 zero2 _ _) (load_unread harg6 zero2 _ _) (load_unread harg7 zero2 _ _) (load_unread harg8 zero2 _ _) (load_unread harg8 zero2 _ _) (load_unread harg8 zero2 _ _) (load_unread harg8 zero2 _ _)
        (load_plane c W _ 1 (own_offs1 t).2.2.2 _) (load_plane c W _ 2 (own_offs2 t).2.2.2 _) (load_plane c W _ 3 (own_offs3 t).2.2.2 _) (load_plane c W _ 4 (own_offs4 t).2.2.2 _) (load_plane c W _ 5 (own_offs5 t).2.2.2 _) (load_unread harg2 zero3 _ _) ?_
      exact load_unread harg15 zero2 _ _
    isplitl [Ha]
    · iexists _; isplitr; swap; · iexact Ha
      ipureintro
      refine (read_store_zero arg15.view zero2 _ _ _ _).trans ?_
      sl_unfold_words
      refine accStep_eq (load_plane c W _ 0 (own_offs0 t).2.2.2 _) (load_unread harg3 zero2 _ _) (load_unread harg5 zero2 _ _) (load_unread harg4 zero2 _ _) (load_unread harg6 zero2 _ _) (load_unread harg7 zero2 _ _) (load_unread harg8 zero2 _ _) (load_unread harg8 zero2 _ _) (load_unread harg8 zero2 _ _) (load_unread harg8 zero2 _ _)
        (load_plane c W _ 1 (own_offs1 t).2.2.2 _) (load_plane c W _ 2 (own_offs2 t).2.2.2 _) (load_plane c W _ 3 (own_offs3 t).2.2.2 _) (load_plane c W _ 4 (own_offs4 t).2.2.2 _) (load_plane c W _ 5 (own_offs5 t).2.2.2 _) (load_unread harg2 zero3 _ _) ?_
      exact load_unread harg15 zero2 _ _
    isplitl [Hf0 Hf0_dst Hf0_src Hr0 Hf1 Hf1_dst Hf1_src Hr1 Hf2 Hf2_dst Hf2_src Hr2 Hf3 Hf3_dst Hf3_src Hr3 Hf4 Hf4_dst Hf4_src Hr4 Hf5 Hf5_dst Hf5_src Hr5]
    · isplitl [Hf0 Hf0_dst Hf0_src Hr0]
      · iapply (idle_landed c W t.val 0 _); isplitl [Hf0]; · iexact Hf0
        isplitl [Hf0_dst]; · iexact Hf0_dst
        isplitl [Hf0_src]; · iexact Hf0_src
        iexact Hr0
      isplitl [Hf1 Hf1_dst Hf1_src Hr1]
      · iapply (idle_landed c W t.val 1 _); isplitl [Hf1]; · iexact Hf1
        isplitl [Hf1_dst]; · iexact Hf1_dst
        isplitl [Hf1_src]; · iexact Hf1_src
        iexact Hr1
      isplitl [Hf2 Hf2_dst Hf2_src Hr2]
      · iapply (idle_landed c W t.val 2 _); isplitl [Hf2]; · iexact Hf2
        isplitl [Hf2_dst]; · iexact Hf2_dst
        isplitl [Hf2_src]; · iexact Hf2_src
        iexact Hr2
      isplitl [Hf3 Hf3_dst Hf3_src Hr3]
      · iapply (idle_landed c W t.val 3 _); isplitl [Hf3]; · iexact Hf3
        isplitl [Hf3_dst]; · iexact Hf3_dst
        isplitl [Hf3_src]; · iexact Hf3_src
        iexact Hr3
      isplitl [Hf4 Hf4_dst Hf4_src Hr4]
      · iapply (idle_landed c W t.val 4 _); isplitl [Hf4]; · iexact Hf4
        isplitl [Hf4_dst]; · iexact Hf4_dst
        isplitl [Hf4_src]; · iexact Hf4_src
        iexact Hr4
      iapply (idle_landed c W t.val 5 _); isplitl [Hf5]; · iexact Hf5
      isplitl [Hf5_dst]; · iexact Hf5_dst
      isplitl [Hf5_src]; · iexact Hf5_src
      iexact Hr5
    isplitl [Hcn0 Hsn0 Hwn0 Hcn1 Hsn1 Hwn1 Hcn2 Hsn2 Hwn2 Hcn3 Hsn3 Hwn3 Hcn4 Hsn4 Hwn4 Hcn5 Hsn5 Hwn5]
    · isplitl [Hcn0 Hsn0 Hwn0]
      · isplitl [Hcn0]; · iexact Hcn0
        isplitl [Hsn0]; · iexists _; iexact Hsn0
        iexact Hwn0
      isplitl [Hcn1 Hsn1 Hwn1]
      · isplitl [Hcn1]; · iexact Hcn1
        isplitl [Hsn1]; · iexists _; iexact Hsn1
        iexact Hwn1
      isplitl [Hcn2 Hsn2 Hwn2]
      · isplitl [Hcn2]; · iexact Hcn2
        isplitl [Hsn2]; · iexists _; iexact Hsn2
        iexact Hwn2
      isplitl [Hcn3 Hsn3 Hwn3]
      · isplitl [Hcn3]; · iexact Hcn3
        isplitl [Hsn3]; · iexists _; iexact Hsn3
        iexact Hwn3
      isplitl [Hcn4 Hsn4 Hwn4]
      · isplitl [Hcn4]; · iexact Hcn4
        isplitl [Hsn4]; · iexists _; iexact Hsn4
        iexact Hwn4
      isplitl [Hcn5]; · iexact Hcn5
      isplitl [Hsn5]; · iexists _; iexact Hsn5
      iexact Hwn5
    iexists _; iexact HW

end Cert.KernelIdeal.Flow

end
-- ==== Proof.IFrame.lean ====
/- The run of the whole program: the proof data of the one pipeline (each input at its block, the accumulator named point by point,
   the output at the result made from the finished accumulator), the body's obligation at every point, the launch, and the frame. -/
module

public import proofs.«01_k».proof.Proof.IRunFirst
public import proofs.«01_k».proof.Proof.IRunMid
public import proofs.«01_k».proof.Proof.IRunLast

@[expose] public section

set_option maxRecDepth 16384

noncomputable section

namespace Cert.KernelIdeal.Flow

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The conditions of the body's three branches over the grid. -/
theorem cond1_iff : ∀ t : Fin grid0.N, k0_cond1 (grid0.coords t) = 1#1 ↔ t.val = 0 := by decide +kernel
theorem cond2_iff : ∀ t : Fin grid0.N, k0_cond2 (grid0.coords t) = 1#1 ↔ t.val < 97 := by decide +kernel
theorem cond3_iff : ∀ t : Fin grid0.N, k0_cond3 (grid0.coords t) = 1#1 ↔ t.val = 97 := by decide +kernel

/-- The accumulator before point `n`: zero, advanced by each point's step. -/
def accAt (c : Dev nD) : ℕ → Vec F S512x8 .f32
  | 0 => k0_pay2
  | n + 1 => if h : n < cfg0.N then
      accStep (BitVec.ofNat 32 (grid0.coords ⟨n, h⟩ 0).val) (iblk m c 0 ⟨n, h⟩) (iblk m c 1 ⟨n, h⟩) (iblk m c 2 ⟨n, h⟩) (iblk m c 3 ⟨n, h⟩)
        (iblk m c 4 ⟨n, h⟩) (iblk m c 5 ⟨n, h⟩) (iblk m c 6 ⟨n, h⟩) (plane c (V m c main_arg0) n) (accAt c n)
    else accAt c n

/-- The step from the accumulator before a point to the one after it. -/
theorem accAt_succ (c : Dev nD) (t : Fin cfg0.N) : accAt m c (t.val + 1)
    = accStep (BitVec.ofNat 32 (grid0.coords t 0).val) (iblk m c 0 t) (iblk m c 1 t) (iblk m c 2 t) (iblk m c 3 t)
        (iblk m c 4 t) (iblk m c 5 t) (iblk m c 6 t) (plane c (V m c main_arg0) t.val) (accAt m c t.val) := by
  rw [accAt]; exact dif_pos t.isLt

/-- What the last point stores: the result made from the finished accumulator. -/
def outAt (c : Dev nD) (t : Fin cfg0.N) : Vec F S512x128 .f32 := k0_pay1 (accAt m c 98) (iblk m c 7 t) (iblk m c 8 t) (iblk m c 9 t)

/-- The accumulator's scratch before point `k`: at anything before the first. -/
def accP (c : Dev nD) (k : ℕ) : sProp 𝕄 :=
  if k = 0 then iprop(∃ d, owns (c : Thread nD τ) accBuf fullShare d) else owns (c : Thread nD τ) accBuf fullShare (accAt m c k)

theorem accP_zero (c : Dev nD) : accP m c 0 = iprop(∃ d, owns (c : Thread nD τ) accBuf fullShare d) := if_pos rfl
theorem accP_pos (c : Dev nD) {k : ℕ} (h : k ≠ 0) : accP m c k = owns (c : Thread nD τ) accBuf fullShare (accAt m c k) := if_neg h

/-- The invariant before point `k`. -/
def inv (c : Dev nD) (k : ℕ) : sProp 𝕄 := iprop(accP m c k ∗ (∃ r, prngReg c r) ∗ stream c (V m c main_arg0) k)

/-- The pipeline's proof data. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ t := inv m c t.val
  q _ := fullShare
  owed _ := 0

theorem A_eq (c : Dev nD) (w : Fin cfg0.W) : (dats m 0 c).A w = V m c (Pipeline.arrRef spec0 w) := by dsimp only [dats]
theorem inv_castSucc (c : Dev nD) (t : Fin cfg0.N) : (dats m 0 c).Φ t.castSucc = inv m c t.val := by
  dsimp only [dats]; simp only [Fin.val_castSucc]
theorem inv_succ (c : Dev nD) (t : Fin cfg0.N) : (dats m 0 c).Φ t.succ = inv m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = outAt m c t := by dsimp only [dats]

/-- An input's current buffer holds its block at every point. -/
theorem before_block (c : Dev nD) (w : Fin cfg0.W) (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hcut : ∀ t, (cfg0.win w).cut (cfg0.grid.coords t) ((dats m 0 c).after w t) = iblk m c w t) (t : Fin cfg0.N) (d) :
    (dats m 0 c).before w t d = (dats m 0 c).fetched w t d :=
  (dats m 0 c).before_in_eq_fetched w hw hlive hclip (fun t => (hcut t).trans (by unfold Dat.blockOf iblk; rw [A_eq])) t d

theorem before_0 (c : Dev nD) (t : Fin cfg0.N) (d) : (dats m 0 c).before 0 t d = iblk m c 0 t :=
  (before_block m c 0 rfl (fun _ => rfl) (fun _ _ _ => rfl) (fun t => by rw [after_0]) t d).trans (by unfold Dat.fetched Dat.blockOf iblk; rw [A_eq]; rfl)
theorem before_1 (c : Dev nD) (t : Fin cfg0.N) (d) : (dats m 0 c).before 1 t d = iblk m c 1 t :=
  (before_block m c 1 rfl (fun _ => rfl) (fun _ _ _ => rfl) (fun t => by rw [after_1]) t d).trans (by unfold Dat.fetched Dat.blockOf iblk; rw [A_eq]; rfl)
theorem before_2 (c : Dev nD) (t : Fin cfg0.N) (d) : (dats m 0 c).before 2 t d = iblk m c 2 t :=
  (before_block m c 2 rfl (fun _ => rfl) (fun _ _ _ => rfl) (fun t => by rw [after_2]) t d).trans (by unfold Dat.fetched Dat.blockOf iblk; rw [A_eq]; rfl)
theorem before_3 (c : Dev nD) (t : Fin cfg0.N) (d) : (dats m 0 c).before 3 t d = iblk m c 3 t :=
  (before_block m c 3 rfl (fun _ => rfl) (fun _ _ _ => rfl) (fun t => by rw [after_3]) t d).trans (by unfold Dat.fetched Dat.blockOf iblk; rw [A_eq]; rfl)
theorem before_4 (c : Dev nD) (t : Fin cfg0.N) (d) : (dats m 0 c).before 4 t d = iblk m c 4 t :=
  (before_block m c 4 rfl (fun _ => rfl) (fun _ _ _ => rfl) (fun t => by rw [after_4]) t d).trans (by unfold Dat.fetched Dat.blockOf iblk; rw [A_eq]; rfl)
theorem before_5 (c : Dev nD) (t : Fin cfg0.N) (d) : (dats m 0 c).before 5 t d = iblk m c 5 t :=
  (before_block m c 5 rfl (fun _ => rfl) (fun _ _ _ => rfl) (fun t => by rw [after_5]) t d).trans (by unfold Dat.fetched Dat.blockOf iblk; rw [A_eq]; rfl)
theorem before_6 (c : Dev nD) (t : Fin cfg0.N) (d) : (dats m 0 c).before 6 t d = iblk m c 6 t :=
  (before_block m c 6 rfl (fun _ => rfl) (fun _ _ _ => rfl) (fun t => by rw [after_6]) t d).trans (by unfold Dat.fetched Dat.blockOf iblk; rw [A_eq]; rfl)
theorem before_7 (c : Dev nD) (t : Fin cfg0.N) (d) : (dats m 0 c).before 7 t d = iblk m c 7 t :=
  (before_block m c 7 rfl (fun _ => rfl) (fun _ _ _ => rfl) (fun t => by rw [after_7]) t d).trans (by unfold Dat.fetched Dat.blockOf iblk; rw [A_eq]; rfl)
theorem before_8 (c : Dev nD) (t : Fin cfg0.N) (d) : (dats m 0 c).before 8 t d = iblk m c 8 t :=
  (before_block m c 8 rfl (fun _ => rfl) (fun _ _ _ => rfl) (fun t => by rw [after_8]) t d).trans (by unfold Dat.fetched Dat.blockOf iblk; rw [A_eq]; rfl)
theorem before_9 (c : Dev nD) (t : Fin cfg0.N) (d) : (dats m 0 c).before 9 t d = iblk m c 9 t :=
  (before_block m c 9 rfl (fun _ => rfl) (fun _ _ _ => rfl) (fun t => by rw [after_9]) t d).trans (by unfold Dat.fetched Dat.blockOf iblk; rw [A_eq]; rfl)

/-- What the body leaves of a window that is live at the point. -/
theorem live_leaves (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- The output is handed back as found at every point but the last, -/
theorem out_idle (c : Dev nD) (t : Fin cfg0.N) (h : t.val ≠ 97) : (dats m 0 c).leavesExact 10 t
    = iprop(∃ d, owns (c : Thread nD τ) (st0_10 t) fullShare ((dats m 0 c).before 10 t d)) :=
  (dats m 0 c).leavesExact_idle 10 t (by
      show (!(k0_cond3 (grid0.coords t) == 1#1)) = true
      simp only [Bool.not_eq_true', beq_eq_false_iff_ne, ne_eq]; exact fun e => h ((cond3_iff t).mp e))
    (Bool.eq_false_iff.mpr fun e => h (by have := (flush0_10 t).mp e; have : t.val < 98 := lt_of_lt_of_eq t.isLt N_0; omega))
/-- and written there. -/
theorem out_live (c : Dev nD) (t : Fin cfg0.N) (h : t.val = 97) : (dats m 0 c).leavesExact 10 t
    = owns (c : Thread nD τ) (st0_10 t) fullShare (outAt m c t) := by
  rw [live_leaves m c 10 t (by
    show (!(k0_cond3 (grid0.coords t) == 1#1)) = false
    rw [(cond3_iff t).mpr h]; rfl), after_10]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 1600000 in
/-- The body at every point: the first, the last, or one between. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  have hN : t.val < 98 := lt_of_lt_of_eq t.isLt N_0
  simp only [before_0, before_1, before_2, before_3, before_4, before_5, before_6, before_7, before_8, before_9]
  rw [live_leaves m c 0 t rfl, live_leaves m c 1 t rfl, live_leaves m c 2 t rfl, live_leaves m c 3 t rfl, live_leaves m c 4 t rfl, live_leaves m c 5 t rfl, live_leaves m c 6 t rfl, live_leaves m c 7 t rfl, live_leaves m c 8 t rfl, live_leaves m c 9 t rfl, after_0, after_1, after_2, after_3, after_4, after_5, after_6, after_7, after_8, after_9]
  rw [inv_castSucc m c t, inv_succ m c t]
  unfold Dat.owesAt Pipeline.owesWithin
  rw [show (dats m 0 c).owed t.castSucc = 0 from rfl, show (dats m 0 c).owed t.succ = 0 from rfl]
  unfold inv
  rw [accP_pos m c (k := t.val + 1) (by omega), accAt_succ]
  by_cases h0 : t.val = 0
  · obtain rfl : t = firstPt := Fin.ext h0
    rw [out_idle m c firstPt (by omega), show accP m c firstPt.val = _ from accP_zero m c,
      show stream c (V m c main_arg0) firstPt.val = iprop(idle c (V m c main_arg0) firstPt.val ∗ idle c (V m c main_arg0) (firstPt.val + 1)) from stream_first c _,
      stream_mid c _ (firstPt.val + 1) (by omega) (by omega), idle_congr c (V m c main_arg0) (show (firstPt.val + 1 + 1) % 2 = firstPt.val % 2 by omega)]
    iintro ⟨⟨Ha, Hg, Hst⟩, ⟨%Ws, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_first c _ _ _ _ _ _ _ _ _ _ _ _ _ _ _ _ _ _ _ _ _ _ _ _ ((cond1_iff _).mpr h0) ((cond2_iff _).mpr (by omega)) (fun h => by have := (cond3_iff _).mp h; omega) (iblk m c 0 firstPt) (iblk m c 1 firstPt) (iblk m c 2 firstPt) (iblk m c 3 firstPt) (iblk m c 4 firstPt) (iblk m c 5 firstPt) (iblk m c 6 firstPt) (iblk m c 7 firstPt) (iblk m c 8 firstPt) (iblk m c 9 firstPt) _ (V m c main_arg0) Ws _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [Ha]; · iexact Ha
    icases Hst with ⟨Hf, Hi⟩
    isplitl [Hf]; · iexact Hf
    isplitl [Hi]; · iexact Hi
    isplitl [HW]; · iexact HW
    iintro ⟨H0, H1, H2, H3, H4, H5, H6, H7, H8, H9, H10, Ha, Hn, Ho, ⟨%Ws', HW⟩⟩
    isplitl [Ha Hg Hn Ho]
    · isplitl [Ha]; · iexact Ha
      isplitl [Hg]; · iexact Hg
      isplitl [Hn]; · iexact Hn
      iexact Ho
    isplitl [HW]
    · iexists Ws'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists d10; iexact H10

  rw [accP_pos m c h0, stream_mid c _ t.val h0 (by omega)]
  by_cases h97 : t.val = 97
  · rw [out_live m c t h97, show t.val + 1 = 98 by omega, stream_last, idle_congr c (V m c main_arg0) (show 98 % 2 = (t.val + 1) % 2 by omega),
      idle_congr c (V m c main_arg0) (show 0 % 2 = (t.val + 1) % 2 by omega), idle_congr c (V m c main_arg0) (show 1 % 2 = t.val % 2 by omega)]
    unfold outAt
    rw [show accAt m c 98 = _ from (congrArg (accAt m c) (show 98 = t.val + 1 by omega)).trans (accAt_succ m c t)]
    iintro ⟨⟨Ha, Hg, Hst⟩, ⟨%Ws, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_last c t _ _ _ _ _ _ _ _ _ _ _ _ _ _ _ _ _ _ _ _ _ _ _ _ (fun h => h0 ((cond1_iff t).mp h)) (fun h => by have := (cond2_iff t).mp h; omega) ((cond3_iff t).mpr h97) (iblk m c 0 t) (iblk m c 1 t) (iblk m c 2 t) (iblk m c 3 t) (iblk m c 4 t) (iblk m c 5 t) (iblk m c 6 t) (iblk m c 7 t) (iblk m c 8 t) (iblk m c 9 t) _ (V m c main_arg0) Ws _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [Ha]; · iexact Ha
    icases Hst with ⟨Hf, Hi⟩
    isplitl [Hf]; · iexact Hf
    isplitl [Hi]; · iexact Hi
    isplitl [HW]; · iexact HW
    iintro ⟨H0, H1, H2, H3, H4, H5, H6, H7, H8, H9, H10, Ha, Hn, Ho, ⟨%Ws', HW⟩⟩
    isplitl [Ha Hg Hn Ho]
    · isplitl [Ha]; · iexact Ha
      isplitl [Hg]; · iexact Hg
      isplitl [Ho]; · iexact Ho
      iexact Hn
    isplitl [HW]
    · iexists Ws'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

  · rw [out_idle m c t h97, stream_mid c _ (t.val + 1) (by omega) (by omega), idle_congr c (V m c main_arg0) (show (t.val + 1 + 1) % 2 = t.val % 2 by omega)]
    iintro ⟨⟨Ha, Hg, Hst⟩, ⟨%Ws, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_mid c t _ _ _ _ _ _ _ _ _ _ _ _ _ _ _ _ _ _ _ _ _ _ _ _ (fun h => h0 ((cond1_iff t).mp h)) ((cond2_iff t).mpr (by omega)) (fun h => h97 ((cond3_iff t).mp h)) (iblk m c 0 t) (iblk m c 1 t) (iblk m c 2 t) (iblk m c 3 t) (iblk m c 4 t) (iblk m c 5 t) (iblk m c 6 t) (iblk m c 7 t) (iblk m c 8 t) (iblk m c 9 t) _ _ (V m c main_arg0) Ws _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [Ha]; · iexact Ha
    icases Hst with ⟨Hf, Hi⟩
    isplitl [Hf]; · iexact Hf
    isplitl [Hi]; · iexact Hi
    isplitl [HW]; · iexact HW
    iintro ⟨H0, H1, H2, H3, H4, H5, H6, H7, H8, H9, H10, Ha, Hn, Ho, ⟨%Ws', HW⟩⟩
    isplitl [Ha Hg Hn Ho]
    · isplitl [Ha]; · iexact Ha
      isplitl [Hg]; · iexact Hg
      isplitl [Hn]; · iexact Hn
      iexact Ho
    isplitl [HW]
    · iexists Ws'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists d10; iexact H10

/-- The body table's row at a point is the body. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region, written out. -/
theorem handed_eq (c : Dev nD) : (Pipeline.ΦD osem spec0 hbmOps (V m) c : sProp 𝕄)
    = iprop(((∃ d, owns (c : Thread nD τ) ringBuf fullShare d) ∗ (∃ d, owns (c : Thread nD τ) accBuf fullShare d)) ∗ (∃ r, prngReg c r)
        ∗ Pipeline.ownSems0 osem c ∗ held c xHbm (V m c main_arg0)) := by
  rw [Pipeline.ΦD_eq, scopedRest0_eq, BI.bigSep_eq_bigSepL_of_eq [main_arg0] (by decide) (by decide)]
  simp only [ringBuf, accBuf, owns_whole]; rfl

/-- That is the invariant before the first point, -/
theorem hin (c : Dev nD) : Pipeline.ΦD osem spec0 hbmOps (V m) c ⊢ (dats m 0 c).Φ 0 := by
  rw [handed_eq, show (dats m 0 c).Φ 0 = inv m c 0 from rfl]
  unfold inv; rw [accP_zero, stream_first]
  iintro ⟨⟨HS, Ha⟩, Hg, HC, HW⟩
  isplitl [Ha]; · iexact Ha
  isplitl [Hg]; · iexact Hg
  iapply (idle_launch c (V m c main_arg0)).1
  isplitl [HS]; · iexact HS
  isplitl [HC]; · iexact HC
  iexact HW
/-- and the invariant after the last hands it back. -/
theorem hout (c : Dev nD) : (dats m 0 c).Φ (Fin.last cfg0.N) ⊢ Pipeline.ΦD osem spec0 hbmOps (V m) c := by
  rw [handed_eq, show (dats m 0 c).Φ (Fin.last cfg0.N) = inv m c grid0.N from rfl, N_0]
  unfold inv; rw [accP_pos m c (by decide), stream_last]
  iintro ⟨Ha, Hg, Hst⟩
  ihave HX := (idle_launch c (V m c main_arg0)).2 $$ Hst
  icases HX with ⟨HS, HC, HW⟩
  isplitl [HS Ha]
  · isplitl [HS]; · iexact HS
    iexists _; iexact Ha
  isplitl [Hg]; · iexact Hg
  isplitl [HC]; · iexact HC
  iexact HW

/-- The program around its region. -/
theorem hmain : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

set_option backward.isDefEq.respectTransparency.types false in
set_option maxHeartbeats 800000 in
/-- The run: every fair execution terminates with the pipeline's arrays at what the proof data says, every other buffer as the host's
    lines leave it, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem defs₀ Variants.none osem_facts hbmOps hbmOps_sub m ρ main
    (hbody := fun c => (body_obligation m c).loose) (hshare := fun c => (dats m 0 c).share_full fun _ => rfl)
    (howed := fun _ _ => rfl) (V₀ := V0 m) (opss := [hostOps1]) (hsub := tail_clear) (hfresh := sfx_fresh) (hkeep := sfx_keeps)
    (hmain := hmain m) (hA := A_eq m) (hin := hin m) (hout := hout m)

/-- A buffer that is no array of the pipeline and that the lines after the region do not write holds, after them, what it held
    before the region. -/
theorem tail_keeps (c : Dev nD) (b : Ref sig .tc) (hb : ∀ w, Pipeline.arrRef spec0 w ≠ b)
    (h27 : b ≠ main_v27) (h28 : b ≠ main_v28) : Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append, List.nil_append, List.Forall,
        StableHlo.unary_writes, StableHlo.reshape_writes, Finset.mem_singleton]
      exact ⟨StableHlo.devRef_ne_of_ne h27, StableHlo.devRef_ne_of_ne h28⟩)),
    Pipeline.withArrays_of_ne _ c (V0 m c) _ b hb]

/-- After the run the arguments are as they were. -/
theorem args_kept (r : PUnit × MemSt nD τ sig (Elt F))
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  have rest : ∀ (c : Dev nD) (b : Ref sig .tc) (r : PUnit × MemSt nD τ sig (Elt F)),
      Pipeline.FramePost cfgs (dats m) 0 (Pipeline.afterTail₀ cfgs (dats m) 0 (V0 m) [hostOps1]) r → b ∈ Pipeline.restRefs sig spec0 →
      (∀ w, Pipeline.arrRef spec0 w ≠ b) → b ≠ main_v27 → b ≠ main_v28 → V m c b = m ((c : Thread nD τ).loc b) →
      r.2.mem ((c.tc : Thread nD τ).loc b) = m ((c.tc : Thread nD τ).loc b) := fun c b r h hr hw h27 h28 hV =>
    ((h c).2 b hr).trans ((tail_keeps m c b hw h27 h28).trans hV)
  exact ⟨rest c main_arg0 r h (Pipeline.mem_restRefs_of main_arg0 (by decide) (by decide)) (by decide) (by decide) (by decide) (V_main_arg0 m c),
    rest c main_arg1 r h (Pipeline.mem_restRefs_of main_arg1 (by decide) (by decide)) (by decide) (by decide) (by decide) (V_main_arg1 m c),
    rest c main_arg2 r h (Pipeline.mem_restRefs_of main_arg2 (by decide) (by decide)) (by decide) (by decide) (by decide) (V_main_arg2 m c),
    rest c main_arg3 r h (Pipeline.mem_restRefs_of main_arg3 (by decide) (by decide)) (by decide) (by decide) (by decide) (V_main_arg3 m c),
    rest c main_arg4 r h (Pipeline.mem_restRefs_of main_arg4 (by decide) (by decide)) (by decide) (by decide) (by decide) (V_main_arg4 m c),
    rest c main_arg5 r h (Pipeline.mem_restRefs_of main_arg5 (by decide) (by decide)) (by decide) (by decide) (by decide) (V_main_arg5 m c),
    rest c main_arg6 r h (Pipeline.mem_restRefs_of main_arg6 (by decide) (by decide)) (by decide) (by decide) (by decide) (V_main_arg6 m c),
    ((h c).1 5).trans (((dats m 0 c).arrAt_in 5 rfl _).trans ((A_eq m c 5).trans (V_main_arg7 m c))),
    rest c main_arg8 r h (Pipeline.mem_restRefs_of main_arg8 (by decide) (by decide)) (by decide) (by decide) (by decide) (V_main_arg8 m c),
    rest c main_arg9 r h (Pipeline.mem_restRefs_of main_arg9 (by decide) (by decide)) (by decide) (by decide) (by decide) (V_main_arg9 m c),
    rest c main_arg10 r h (Pipeline.mem_restRefs_of main_arg10 (by decide) (by decide)) (by decide) (by decide) (by decide) (V_main_arg10 m c)⟩

/-- The frame: the arguments end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => args_kept m r h.1 c, h.2⟩) (run_main m ρ)

end Cert.KernelIdeal.Flow

end
-- ==== Proof.Stress.lean ====
/- The mathematics both programs compute, over the extended reals: a node's six values, their sums over a graph's nodes, and the
   re-reading of a sum over the nodes as a sum over blocks of 512 of them whose last block overlaps the one before. -/
module

public import Idealize.ShloMosaic.Lib.Pointwise

@[expose] public section

noncomputable section

namespace Cert.Stress

open Idealize.ShloMosaic

/-- The SiLU. -/
def silu (v : EReal) : EReal := v * Ideal.logistic v

/-- One linear layer with its SiLU; `W k j` is the weight of input `k` in output `j`. -/
def hidden (x : Fin 128 → EReal) (W : Fin 128 → Fin 128 → EReal) (b : Fin 128 → EReal) (j : Fin 128) : EReal :=
  silu (∑ k, x k * W k j + b j)

/-- The two layers and the last dot product, without the last bias. -/
def scal (x : Fin 128 → EReal) (W1 : Fin 128 → Fin 128 → EReal) (b1 : Fin 128 → EReal) (W2 : Fin 128 → Fin 128 → EReal)
    (b2 w3 : Fin 128 → EReal) : EReal :=
  ∑ j, hidden (hidden x W1 b1) W2 b2 j * w3 j

/-- A node's values by column: the scalar, then five dot products, then zeros. -/
def vals (R : Fin 6 → Fin 128 → EReal) (W1 : Fin 128 → Fin 128 → EReal) (b1 : Fin 128 → EReal) (W2 : Fin 128 → Fin 128 → EReal)
    (b2 w3 wr : Fin 128 → EReal) (q : Fin 8) : EReal :=
  if q.val = 0 then scal (R 0) W1 b1 W2 b2 w3
  else if h : q.val < 6 then ∑ k, R ⟨q.val, h⟩ k * wr k else 0

/-- Which node row `r` of block `k` is: the last block is moved back to end with the last node. -/
def row (k : ℕ) (r : Fin 512) : Fin 50000 := ⟨min (512 * k) 49488 + r.val, by have := r.isLt; omega⟩

/-- A sum over the blocks' rows, each node counted in the block it belongs to, is the sum over the nodes. -/
theorem sum_blocks (f : Fin 50000 → EReal) :
    ∑ t ∈ Finset.range 98, ∑ r : Fin 512, (if 512 * t ≤ (row t r).val then f (row t r) else 0) = ∑ n, f n := by
  rw [Finset.sum_sigma' (Finset.range 98) (fun _ => Finset.univ) (fun t r => if 512 * t ≤ (row t r).val then f (row t r) else 0),
    ← Finset.sum_filter]
  refine Finset.sum_bij' (fun p _ => row p.1 p.2)
    (fun n _ => ⟨n.val / 512, ⟨n.val - min (512 * (n.val / 512)) 49488, by have := n.isLt; omega⟩⟩) ?_ ?_ ?_ ?_ ?_
  · intro p _; exact Finset.mem_univ _
  · intro n _; have := n.isLt
    refine Finset.mem_filter.mpr ⟨Finset.mem_sigma.mpr ⟨Finset.mem_range.mpr ?_, Finset.mem_univ _⟩, ?_⟩
    · show n.val / 512 < 98; omega
    · show 512 * (n.val / 512) ≤ min (512 * (n.val / 512)) 49488 + (n.val - min (512 * (n.val / 512)) 49488); omega
  · rintro ⟨t, r⟩ h
    obtain ⟨h1, h2⟩ := Finset.mem_filter.mp h
    replace h1 : t < 98 := Finset.mem_range.mp (Finset.mem_sigma.mp h1).1
    replace h2 : 512 * t ≤ min (512 * t) 49488 + r.val := h2
    have := r.isLt
    have ht : (min (512 * t) 49488 + r.val) / 512 = t := by omega
    simp only [row]
    refine Sigma.ext ht (heq_of_eq (Fin.ext ?_))
    simp only [ht]; omega
  · intro n _; have := n.isLt; apply Fin.ext; simp only [row]; omega
  · intro p _; rfl

/-- The sum of a function over the nodes whose graph is `g`; a word names its graph read as a signed integer. -/
def segSum (batch : Fin 50000 → BitVec 32) (f : Fin 50000 → EReal) (g : ℕ) : EReal :=
  ∑ n, if batch n = BitVec.ofNat 32 g then f n else 0

/-- How many nodes have graph `g`. -/
def segCount (batch : Fin 50000 → BitVec 32) (g : ℕ) : ℕ := (Finset.univ.filter fun n => batch n = BitVec.ofNat 32 g).card

end Cert.Stress

end
-- ==== Proof.RScatter.lean ====
/- The reference's scatters and its gather at an element: the segment sums, the columns it sets, the row it adds a bias to, and the
   rows of weights it takes. -/
module

public import proofs.«01_k».proof.Proof.Gen.ReferenceIdeal
public import proofs.«01_k».proof.Proof.Stress
public import Idealize.ShloMosaic.Lib.Pointwise
public import Idealize.ShloMosaic.Lib.Routing.OpsOne

@[expose] public section

set_option maxRecDepth 16384

noncomputable section

namespace Cert.ReferenceIdeal.Read

open Cert.ReferenceIdeal Cert.ReferenceIdeal.Gen Cert.Stress Idealize.ShloMosaic

/-- A word read signed is a small number exactly when it is that number's word. -/
theorem toInt_iff (b : BitVec 32) (g : ℕ) (hg : g < 500) : b.toInt = (g : Int) ↔ b = BitVec.ofNat 32 g := by
  have e : (BitVec.ofNat 32 g).toInt = (g : Int) := by
    rw [BitVec.toInt_eq_toNat_of_lt (by simp; omega)]; simp; omega
  exact ⟨fun h => BitVec.eq_of_toInt_eq (h.trans e.symm), fun h => h ▸ e⟩

/-- A node's scalar goes to its graph. -/
theorem lands1 (idx : IVec S50000x1 32) (n : Fin 50000) (g : Fin 500) :
    scatter_S500_S50000x1_S50000_n_0_0_1.resultIdx? (ix1 n) idx = some (ix1 g) ↔ idx (ix2 n 0) = BitVec.ofNat 32 g.val := by
  rw [ix1_eq_valueIdx g, Routing.resultIdx?_ix1, ← toInt_iff _ _ g.isLt]
  have hs : scatter_S500_S50000x1_S50000_n_0_0_1.siIdx (ix1 n) ⟨0, by decide⟩ = ix2 n 0 := by
    funext b; fin_cases b <;> rfl
  have h1 : scatter_S500_S50000x1_S50000_n_0_0_1.window (ix1 n) 0 = 0 := rfl
  have h2 : scatter_S500_S50000x1_S50000_n_0_0_1.start (ix1 n) idx 0 = (idx (ix2 n 0)).toInt := by
    rw [← hs]; rfl
  rw [h1, h2]
  simp

/-- A node's five values go to its graph's row. -/
theorem lands5 (idx : IVec S50000x1 32) (n : Fin 50000) (j : Fin 5) (g : Fin 500) (k : Fin 5) :
    scatter_S500x5_S50000x1_S50000x5_1_0_0_1.resultIdx? (ix2 n j) idx = some (ix2 g k) ↔ idx (ix2 n 0) = BitVec.ofNat 32 g.val ∧ j = k := by
  rw [ix2_eq_valueIdx g, Routing.resultIdx?_ix2, ← toInt_iff _ _ g.isLt]
  have hs : scatter_S500x5_S50000x1_S50000x5_1_0_0_1.siIdx (ix2 n j) ⟨0, by decide⟩ = ix2 n 0 := by
    funext b; fin_cases b <;> rfl
  have h1 : scatter_S500x5_S50000x1_S50000x5_1_0_0_1.window (ix2 n j) 0 = 0 := rfl
  have h2 : scatter_S500x5_S50000x1_S50000x5_1_0_0_1.start (ix2 n j) idx 0 = (idx (ix2 n 0)).toInt := by
    rw [← hs]; rfl
  have h3 : scatter_S500x5_S50000x1_S50000x5_1_0_0_1.window (ix2 n j) 1 = j.val := rfl
  have h4 : scatter_S500x5_S50000x1_S50000x5_1_0_0_1.start (ix2 n j) idx 1 = 0 := rfl
  rw [h1, h2, h3, h4]
  simp [Fin.ext_iff]

/-- The segment sum of a scalar. -/
theorem seg1_apply (x : FVec Ideal S500 .f32) (idx : IVec S50000x1 32) (u : FVec Ideal S50000 .f32) (g : Fin 500) (hx : x (ix1 g) = (0 : EReal)) :
    (Host.scatterAdd scatter_S500_S50000x1_S50000_n_0_0_1 x idx u : FVec Ideal S500 .f32) (ix1 g)
      = segSum (fun n => idx (ix2 n 0)) (fun n => u (ix1 n)) g.val := by
  show Ideal.hostScatterAdd _ x idx u (ix1 g) = _
  unfold Ideal.hostScatterAdd segSum
  rw [hx, zero_add, Finset.sum_filter]
  refine (sum_idx1 (n0 := 50000) _).trans (Finset.sum_congr rfl fun n _ => ?_)
  simp only [lands1]

/-- The segment sum of five values. -/
theorem seg5_apply (x : FVec Ideal S500x5 .f32) (idx : IVec S50000x1 32) (u : FVec Ideal S50000x5 .f32) (g : Fin 500) (k : Fin 5)
    (hx : x (ix2 g k) = (0 : EReal)) :
    (Host.scatterAdd scatter_S500x5_S50000x1_S50000x5_1_0_0_1 x idx u : FVec Ideal S500x5 .f32) (ix2 g k)
      = segSum (fun n => idx (ix2 n 0)) (fun n => u (ix2 n k)) g.val := by
  show Ideal.hostScatterAdd _ x idx u (ix2 g k) = _
  unfold Ideal.hostScatterAdd segSum
  rw [hx, zero_add, Finset.sum_filter]
  refine (sum_idx2 (n0 := 50000) (n1 := 5) _).trans (Finset.sum_congr rfl fun n _ => ?_)
  simp only [lands5]
  rw [Finset.sum_eq_single k (fun j _ hj => if_neg fun e => hj e.2) (fun h => absurd (Finset.mem_univ k) h)]
  simp only [and_true]

/-- The scalar's column set. -/
theorem set0_lands (idx : IVec S1 32) (h : idx (ix1 0) = 0#32) (g' g : Fin 500) (q : Fin 9) :
    scatter_S500x9_S1_S500_0_1_1_0.resultIdx? (ix1 g') idx = some (ix2 g q) ↔ g' = g ∧ q = 0 := by
  rw [ix2_eq_valueIdx g]
  exact Routing.lands_col _ rfl rfl idx 0 (by rw [← ix1_eq_valueIdx, h]; rfl) g' g q
theorem set0_hit (x : FVec Ideal S500x9 .f32) (idx : IVec S1 32) (u : FVec Ideal S500 .f32) (h : idx (ix1 0) = 0#32) (g : Fin 500) :
    Host.scatter scatter_S500x9_S1_S500_0_1_1_0 (fun _ b => b) x idx u (ix2 g 0) = u (ix1 g) :=
  Routing.scatter_set_hit _ x idx u _ _ (fun k hk => by
    idx_vars k
    rw [((set0_lands idx h _ g 0).mp hk).1]) (ix1 g) ((set0_lands idx h g g 0).mpr ⟨rfl, rfl⟩)
theorem set0_miss (x : FVec Ideal S500x9 .f32) (idx : IVec S1 32) (u : FVec Ideal S500 .f32) (h : idx (ix1 0) = 0#32) (g : Fin 500) (q : Fin 9)
    (hq : q ≠ 0) : Host.scatter scatter_S500x9_S1_S500_0_1_1_0 (fun _ b => b) x idx u (ix2 g q) = x (ix2 g q) :=
  Routing.scatter_set_miss _ x idx u _ fun k hk => by
    idx_vars k
    exact hq ((set0_lands idx h _ g q).mp hk).2

/-- The five columns set. -/
theorem set4_lands (idx : IVec S1 32) (h : idx (ix1 0) = 4#32) (g' g : Fin 500) (k : Fin 5) (q : Fin 9) :
    scatter_S500x9_S1_S500x5_01_n_1_0.resultIdx? (ix2 g' k) idx = some (ix2 g q) ↔ g' = g ∧ 4 + k.val = q.val := by
  rw [ix2_eq_valueIdx g, Routing.resultIdx?_ix2]
  have hs : scatter_S500x9_S1_S500x5_01_n_1_0.siIdx (ix2 g' k) ⟨0, by decide⟩ = ix1 0 := by
    funext b; fin_cases b; rfl
  have h1 : scatter_S500x9_S1_S500x5_01_n_1_0.window (ix2 g' k) 0 = g'.val := rfl
  have h2 : scatter_S500x9_S1_S500x5_01_n_1_0.start (ix2 g' k) idx 0 = 0 := rfl
  have h3 : scatter_S500x9_S1_S500x5_01_n_1_0.window (ix2 g' k) 1 = k.val := rfl
  have h4 : scatter_S500x9_S1_S500x5_01_n_1_0.start (ix2 g' k) idx 1 = (idx (ix1 0)).toInt := by
    rw [← hs]; rfl
  rw [h1, h2, h3, h4, h, show (4#32 : BitVec 32).toInt = 4 from rfl, Fin.ext_iff]
  constructor <;> intro e <;> omega
theorem set4_hit (x : FVec Ideal S500x9 .f32) (idx : IVec S1 32) (u : FVec Ideal S500x5 .f32) (h : idx (ix1 0) = 4#32) (g : Fin 500) (k : Fin 5)
    (q : Fin 9) (hq : 4 + k.val = q.val) : Host.scatter scatter_S500x9_S1_S500x5_01_n_1_0 (fun _ b => b) x idx u (ix2 g q) = u (ix2 g k) :=
  Routing.scatter_set_hit _ x idx u _ _ (fun j hj => by
    idx_vars j
    obtain ⟨e1, e2⟩ := (set4_lands idx h j0 g j1 q).mp hj
    rw [e1, show j1 = k from Fin.ext (by omega)]) (ix2 g k) ((set4_lands idx h g g k q).mpr ⟨rfl, hq⟩)
theorem set4_miss (x : FVec Ideal S500x9 .f32) (idx : IVec S1 32) (u : FVec Ideal S500x5 .f32) (h : idx (ix1 0) = 4#32) (g : Fin 500) (q : Fin 9)
    (hq : q.val < 4) : Host.scatter scatter_S500x9_S1_S500x5_01_n_1_0 (fun _ b => b) x idx u (ix2 g q) = x (ix2 g q) :=
  Routing.scatter_set_miss _ x idx u _ fun j hj => by
    idx_vars j
    have := ((set4_lands idx h _ g _ q).mp hj).2
    omega

/-- A scatter leaves an element at which no update lands. -/
theorem scatter_miss {α : Type} {s si u : Shape} {w : ℕ} (d : ScatterDims s si u) (f : α → α → α) (x : s.Idx → α) (idx : IVec si w)
    (upd : u.Idx → α) (ι : s.Idx) (h : ∀ k : u.Idx, d.resultIdx? k idx ≠ some ι) : Host.scatter d f x idx upd ι = x ι := by
  rw [Routing.scatter_at]
  generalize List.finRange u.numel = l
  induction l with
  | nil => rfl
  | cons k l ih => rw [List.foldl_cons, if_neg (h _), ih]

/-- The bias of row 0 leaves the other rows. -/
theorem bias_miss (x : FVec Ideal S50000x9x1 .f32) (idx : IVec S1 32) (u : FVec Ideal S50000x1 .f32) (h : idx (ix1 0) = 0#32)
    (n : Fin 50000) (p : Fin 9) (hp : p.val ≠ 0) :
    Host.scatter scatter_S50000x9x1_S1_S50000x1_01_1_1_0 FloatOps.addf x idx u (ix3 n p 0) = x (ix3 n p 0) := by
  refine scatter_miss _ _ x idx u _ fun j e => hp ?_
  idx_vars j
  have e1 := (Routing.resultIdx?_eq_some _ _ idx _).mp e 1
  have hs : scatter_S50000x9x1_S1_S50000x1_01_1_1_0.siIdx (ix2 j0 j1) ⟨0, by decide⟩ = ix1 0 := by
    funext b; fin_cases b; rfl
  have h1 : scatter_S50000x9x1_S1_S50000x1_01_1_1_0.window (ix2 j0 j1) 1 = 0 := rfl
  have h2 : scatter_S50000x9x1_S1_S50000x1_01_1_1_0.start (ix2 j0 j1) idx 1 = (idx (ix1 0)).toInt := by
    rw [← hs]; rfl
  rw [h1, h2, h, show (0#32 : BitVec 32).toInt = 0 from rfl] at e1
  replace e1 : (0 : Int) + (0 : ℕ) = (p.val : Int) := e1
  omega

/-- The rows of weights: the last five are the last row of the table. -/
theorem taken_apply (x : FVec Ideal S3x1x128 .f32) (idx : IVec S9x1 32) (p : Fin 9) (h : idx (ix2 p 0) = 2#32) (l : Fin 128) :
    Host.gather gather_S3x1x128_S9x1_S9x1x128_12_0_n_n_0_1_11128 x idx (ix3 p 0 l) = x (ix3 2 0 l) := by
  unfold Host.gather
  refine congrArg x (funext fun a => Fin.ext ?_)
  have hs : gather_S3x1x128_S9x1_S9x1x128_12_0_n_n_0_1_11128.siIdx (ix3 p 0 l) ⟨0, by decide⟩ = ix2 p 0 := by
    funext b; fin_cases b <;> rfl
  match a with
  | ⟨0, _⟩ =>
    show min (idx (gather_S3x1x128_S9x1_S9x1x128_12_0_n_n_0_1_11128.siIdx (ix3 p 0 l) ⟨0, by decide⟩)).toInt.toNat (3 - 1) + 0 + 0 = 2
    rw [hs, h]; rfl
  | ⟨1, _⟩ => rfl
  | ⟨2, _⟩ =>
    show 0 + 0 + l.val = l.val
    omega

end Cert.ReferenceIdeal.Read

end
-- ==== Proof.RNet.lean ====
/- The reference's layers at an element. -/
module

public import proofs.«01_k».proof.Proof.RScatter

@[expose] public section

set_option maxRecDepth 16384

noncomputable section

namespace Cert.ReferenceIdeal.Read

open Cert.ReferenceIdeal Cert.ReferenceIdeal.Gen Cert.Stress Idealize.ShloMosaic

/-- A linear layer. -/
def lin (X : FVec Ideal S50000x128 .f32) (W : FVec Ideal S128x128 .f32) (b : FVec Ideal S128 .f32) : FVec Ideal S50000x128 .f32 :=
  addf (Host.dotGeneral dot_S50000x128_S128x128_S50000x128_1_0_0_1_n_n none X (transpose S128x128 [1, 0] W transposes_S128x128_S128x128_1_0))
    (broadcastInDim S50000x128 ![0, 1] bcast_S1x128_S50000x128_0_1 (broadcastInDim S1x128 ![1] bcast_S128_S1x128_1 b))
theorem lin_apply (X : FVec Ideal S50000x128 .f32) (W : FVec Ideal S128x128 .f32) (b : FVec Ideal S128 .f32) (n : Fin 50000) (j : Fin 128) :
    lin X W b (ix2 n j) = ∑ k, X (ix2 n k) * W (ix2 j k) + b (ix1 j) := by
  pointwise [lin]

/-- The SiLU of a layer. -/
def act (Z : FVec Ideal S50000x128 .f32) : FVec Ideal S50000x128 .f32 :=
  mulf Z (Host.divf (broadcastInDim S50000x128 ![] bcast_S_S50000x128 (constant S_ .f32 0x3F800000#32))
    (addf (broadcastInDim S50000x128 ![] bcast_S_S50000x128 (constant S_ .f32 0x3F800000#32)) (Host.exp (Host.negf Z))))
theorem act_apply (Z : FVec Ideal S50000x128 .f32) (n : Fin 50000) (j : Fin 128) : act Z (ix2 n j) = silu (Z (ix2 n j)) := by
  pointwise [act]
  rfl

/-- Plane 0 of the operand. -/
def plane0 (x : FVec Ideal S50000x9x128 .f32) : FVec Ideal S50000x128 .f32 :=
  shapeCast S50000x128 (extractStridedSlice S50000x1x128 ![0, 0, 0] x slices_S50000x9x128_S50000x1x128_0_0_0) shapeCasts_S50000x1x128_S50000x128
theorem plane0_apply (x : FVec Ideal S50000x9x128 .f32) (n : Fin 50000) (k : Fin 128) : plane0 x (ix2 n k) = x (ix3 n 0 k) := by
  pointwise [plane0]

/-- The last layer. -/
def last (H : FVec Ideal S50000x128 .f32) (w : FVec Ideal S1x128 .f32) (b : FVec Ideal S1 .f32) : FVec Ideal S50000 .f32 :=
  shapeCast S50000 (addf (Host.dotGeneral dot_S50000x128_S128x1_S50000x1_1_0_0_1_n_n none H (transpose S128x1 [1, 0] w transposes_S1x128_S128x1_1_0))
    (broadcastInDim S50000x1 ![0, 1] bcast_S1x1_S50000x1_0_1 (broadcastInDim S1x1 ![1] bcast_S1_S1x1_1 b))) shapeCasts_S50000x1_S50000
theorem last_apply (H : FVec Ideal S50000x128 .f32) (w : FVec Ideal S1x128 .f32) (b : FVec Ideal S1 .f32) (n : Fin 50000) :
    last H w b (ix1 n) = ∑ j, H (ix2 n j) * w (ix2 0 j) + b (ix1 0) := by
  pointwise [last]

/-- The words of the rows taken. -/
def picks : IVec S9x1 32 :=
  broadcastInDim S9x1 ![0] bcast_S9_S9x1_0 (select (cmpi .slt ((fun i => lit0 (S9.rowMajor i))) (broadcastInDim S9 ![] bcast_S_S9 (constantI S_ 32 0#32)))
    (addi ((fun i => lit0 (S9.rowMajor i))) (broadcastInDim S9 ![] bcast_S_S9 (constantI S_ 32 3#32))) ((fun i => lit0 (S9.rowMajor i))))
theorem picks_apply (p : Fin 9) (hp : 4 ≤ p.val) : picks (ix2 p 0) = 2#32 := by
  unfold picks
  fin_cases p
  all_goals first | (exfalso; revert hp; decide) | rfl

/-- The rows of weights. -/
def taken (w : FVec Ideal S3x1x128 .f32) : FVec Ideal S9x1x128 .f32 :=
  select (broadcastInDim S9x1x128 ![0] bcast_S9_S9x1x128_0 (Host.reduce IntOp.andi (andi
      (cmpi .sge picks (broadcastInDim S9x1 ![] bcast_S_S9x1 (constantI S_ 32 0#32)))
      (cmpi .sle picks (broadcastInDim S9x1 ![0, 1] bcast_S1x1_S9x1_0_1 (broadcastInDim S1x1 ![1] bcast_S1_S1x1_1 (constantI S1 32 2#32)))))
      (constantI S_ 1 1#1) reducesTo_S9x1_S9_d1 h_S_))
    (Host.gather gather_S3x1x128_S9x1_S9x1x128_12_0_n_n_0_1_11128 w picks)
    (broadcastInDim S9x1x128 ![] bcast_S_S9x1x128 (constant S_ .f32 0x7FC00000#32))
theorem weights_apply (w : FVec Ideal S3x1x128 .f32) (p : Fin 9) (hp : 4 ≤ p.val) (l : Fin 128) : taken w (ix3 p 0 l) = w (ix3 2 0 l) := by
  have hg := taken_apply w picks p (picks_apply p hp) l
  unfold taken
  generalize Host.gather gather_S3x1x128_S9x1_S9x1x128_12_0_n_n_0_1_11128 w picks = G at hg ⊢
  rw [← hg]
  have hpk := picks_apply p hp
  generalize picks = K at hpk ⊢
  pointwise
  rw [Fin.univ_succ]
  simp only [Fin.isValue, Finset.univ_eq_empty, Finset.map_empty, Finset.cons_empty, Finset.fold_singleton, hpk]
  rfl

/-- The nodes' five products. -/
def prods (w : FVec Ideal S9x1x128 .f32) (x : FVec Ideal S50000x9x128 .f32) : FVec Ideal S50000x9x1 .f32 :=
  transpose S50000x9x1 [2, 0, 1] (Host.dotGeneral dot_S9x1x128_S50000x9x128_S9x1x50000_2_2_1_0_0_1 none w x) transposes_S9x1x50000_S50000x9x1_2_0_1
theorem prods_apply (w : FVec Ideal S9x1x128 .f32) (x : FVec Ideal S50000x9x128 .f32) (n : Fin 50000) (p : Fin 9) :
    prods w x (ix3 n p 0) = ∑ l, w (ix3 p 0 l) * x (ix3 n p l) := by
  pointwise [prods]

/-- The last five rows. -/
def lower (y : FVec Ideal S50000x9x1 .f32) : FVec Ideal S50000x5 .f32 :=
  shapeCast S50000x5 (extractStridedSlice S50000x5x1 ![0, 4, 0] y slices_S50000x9x1_S50000x5x1_0_4_0) shapeCasts_S50000x5x1_S50000x5
theorem lower_apply (y : FVec Ideal S50000x9x1 .f32) (n : Fin 50000) (k : Fin 5) :
    lower y (ix2 n k) = y (ix3 n ⟨4 + k.val, by have := k.isLt; omega⟩ 0) := by
  pointwise [lower]

end Cert.ReferenceIdeal.Read

end
-- ==== Proof.RResult.lean ====
/- What the reference returns, at an element. -/
module

public import proofs.«01_k».proof.Proof.RNet
public import proofs.«01_k».proof.Proof.Gen.ReferenceIdeal.Run

@[expose] public section

set_option maxRecDepth 16384

noncomputable section

namespace Cert.ReferenceIdeal.Read

open Cert.ReferenceIdeal Cert.ReferenceIdeal.Gen Cert.Stress Idealize.ShloMosaic Idealize.ShloMosaic.TcCoe

section
variable (x : FVec Ideal S50000x9x128 .f32) (batch : IVec S50000 32) (natoms : IVec S500 32) (W1 : FVec Ideal S128x128 .f32)
  (b1 : FVec Ideal S128 .f32) (W2 : FVec Ideal S128x128 .f32) (b2 : FVec Ideal S128 .f32) (W3 : FVec Ideal S1x128 .f32)
  (b3 : FVec Ideal S1 .f32) (lw : FVec Ideal S3x1x128 .f32) (lb : FVec Ideal S1 .f32)

/-- The nodes' graphs as a column. -/
def ids : IVec S50000x1 32 := broadcastInDim S50000x1 ![0] bcast_S50000_S50000x1_0 batch
theorem ids_apply (n : Fin 50000) : ids batch (ix2 n 0) = batch (ix1 n) := by pointwise [ids]

/-- The nodes' scalars. -/
def scalars : FVec Ideal S50000 .f32 := last (act (lin (act (lin (plane0 x) W1 b1)) W2 b2)) W3 b3
theorem scalars_apply (n : Fin 50000) : scalars x W1 b1 W2 b2 W3 b3 (ix1 n)
    = scal (fun l => x (ix3 n 0 l)) (fun k j => W1 (ix2 j k)) (fun j => b1 (ix1 j)) (fun k j => W2 (ix2 j k)) (fun j => b2 (ix1 j))
        (fun j => W3 (ix2 0 j)) + b3 (ix1 0) := by
  unfold scalars scal
  simp only [last_apply, act_apply, lin_apply, plane0_apply]
  rfl

/-- The scalars' mean over each graph. -/
def iso : FVec Ideal S500 .f32 :=
  Host.divf (Host.scatterAdd scatter_S500_S50000x1_S50000_n_0_0_1 (broadcastInDim S500 ![] bcast_S_S500 (constant S_ .f32 0x00000000#32))
    (ids batch) (scalars x W1 b1 W2 b2 W3 b3)) (sitofp .f32 natoms)
theorem iso_apply (g : Fin 500) : iso x batch natoms W1 b1 W2 b2 W3 b3 (ix1 g)
    = Ideal.div (segSum (fun n => batch (ix1 n)) (fun n => scalars x W1 b1 W2 b2 W3 b3 (ix1 n)) g.val)
        (FloatOps.sitofp .f32 (natoms (ix1 g)) : Ideal .f32) := by
  have h := seg1_apply (broadcastInDim S500 ![] bcast_S_S500 (constant S_ .f32 0x00000000#32)) (ids batch) (scalars x W1 b1 W2 b2 W3 b3) g (by pointwise)
  simp only [ids_apply] at h
  rw [← h]
  rfl

/-- The nodes' five products. -/
def fives : FVec Ideal S50000x5 .f32 :=
  lower (Host.scatter scatter_S50000x9x1_S1_S50000x1_01_1_1_0 FloatOps.addf (prods (taken lw) x)
    (broadcastInDim S1 ![] bcast_S_S1 (constantI S_ 32 0#32)) (broadcastInDim S50000x1 ![1] bcast_S1_S50000x1_1 lb))
theorem fives_apply (n : Fin 50000) (k : Fin 5) : fives x lw lb (ix2 n k)
    = ∑ l, x (ix3 n ⟨4 + k.val, by have := k.isLt; omega⟩ l) * lw (ix3 2 0 l) := by
  unfold fives
  rw [lower_apply, bias_miss _ _ _ rfl n _ (by show 4 + k.val ≠ 0; omega), prods_apply]
  refine Finset.sum_congr rfl fun l _ => ?_
  rw [weights_apply _ _ (by show 4 ≤ 4 + k.val; omega), mul_comm]

/-- Their means over each graph. -/
def aniso : FVec Ideal S500x5 .f32 :=
  Host.divf (Host.scatterAdd scatter_S500x5_S50000x1_S50000x5_1_0_0_1 (broadcastInDim S500x5 ![] bcast_S_S500x5 (constant S_ .f32 0x00000000#32))
    (ids batch) (fives x lw lb))
    (broadcastInDim S500x5 ![0, 1] bcast_S500x1_S500x5_0_1 (broadcastInDim S500x1 ![0] bcast_S500_S500x1_0 (sitofp .f32 natoms)))
theorem aniso_apply (g : Fin 500) (k : Fin 5) : aniso x batch natoms lw lb (ix2 g k)
    = Ideal.div (segSum (fun n => batch (ix1 n)) (fun n => fives x lw lb (ix2 n k)) g.val) (FloatOps.sitofp .f32 (natoms (ix1 g)) : Ideal .f32) := by
  have h := seg5_apply (broadcastInDim S500x5 ![] bcast_S_S500x5 (constant S_ .f32 0x00000000#32)) (ids batch) (fives x lw lb) g k (by pointwise)
  simp only [ids_apply] at h
  rw [← h]
  unfold aniso
  generalize (Host.scatterAdd scatter_S500x5_S50000x1_S50000x5_1_0_0_1 _ (ids batch) (fives x lw lb) : FVec Ideal S500x5 .f32) = Y
  pointwise

/-- The nine components of each graph. -/
def comps (u : FVec Ideal S500 .f32) (v : FVec Ideal S500x5 .f32) : FVec Ideal S500x9 .f32 :=
  Host.scatter scatter_S500x9_S1_S500x5_01_n_1_0 (fun _ b => b)
    (Host.scatter scatter_S500x9_S1_S500_0_1_1_0 (fun _ b => b) (broadcastInDim S500x9 ![] bcast_S_S500x9 (constant S_ .f32 0x00000000#32))
      (broadcastInDim S1 ![] bcast_S_S1 (constantI S_ 32 0#32)) u)
    (broadcastInDim S1 ![] bcast_S_S1 (constantI S_ 32 4#32)) v
theorem comps_zero (u : FVec Ideal S500 .f32) (v : FVec Ideal S500x5 .f32) (g : Fin 500) : comps u v (ix2 g 0) = u (ix1 g) := by
  unfold comps
  rw [set4_miss _ _ _ rfl g 0 (by decide), set0_hit _ _ _ rfl]
theorem comps_mid (u : FVec Ideal S500 .f32) (v : FVec Ideal S500x5 .f32) (g : Fin 500) (q : Fin 9) (h0 : q ≠ 0) (h4 : q.val < 4) :
    comps u v (ix2 g q) = (0 : EReal) := by
  unfold comps
  rw [set4_miss _ _ _ rfl g q h4, set0_miss _ _ _ rfl g q h0]
  pointwise
theorem comps_last (u : FVec Ideal S500 .f32) (v : FVec Ideal S500x5 .f32) (g : Fin 500) (k : Fin 5) (q : Fin 9) (hq : 4 + k.val = q.val) :
    comps u v (ix2 g q) = v (ix2 g k) := by
  unfold comps
  rw [set4_hit _ _ _ rfl g k q hq]

/-- The change of basis, as 3×3 matrices. -/
def compose (D : FVec Ideal S500x9 .f32) : FVec Ideal S500x3x3 .f32 :=
  shapeCast S500x3x3 (Host.dotGeneral dot_S500x9_S9x9_S500x9_1_0_0_1_n_n none D ((fun i => FloatOps.ofBits .f32 (lit1 (S9x9.rowMajor i))))) shapeCasts_S500x9_S500x3x3

/-- Entry `q`, `l` of the change of basis. -/
def basis (q l : Fin 9) : EReal :=
  (FloatOps.ofBits .f32 (lit1 ⟨9 * q.val + l.val, by have := q.isLt; have := l.isLt; omega⟩) : Ideal .f32)

theorem dot9 (D : FVec Ideal S500x9 .f32) (M : FVec Ideal S9x9 .f32) (h : S500x9.ShapeCasts S500x3x3) (g : Fin 500) (a b : Fin 3) :
    shapeCast S500x3x3 (Host.dotGeneral dot_S500x9_S9x9_S500x9_1_0_0_1_n_n none D M) h (ix3 g a b)
      = ∑ q, D (ix2 g q) * M (ix2 q ⟨3 * a.val + b.val, by have := a.isLt; have := b.isLt; omega⟩) := by
  pointwise
  refine Finset.sum_congr rfl fun q _ => congrArg (D (ix2 g q) * ·) (congrArg M (congrArg (ix2 q) (Fin.ext ?_)))
  show a.val * 3 + b.val = 3 * a.val + b.val
  omega

theorem compose_apply (D : FVec Ideal S500x9 .f32) (g : Fin 500) (a b : Fin 3) : compose D (ix3 g a b)
    = ∑ q, D (ix2 g q) * basis q ⟨3 * a.val + b.val, by have := a.isLt; have := b.isLt; omega⟩ := by
  unfold compose
  rw [dot9]
  refine Finset.sum_congr rfl fun q _ => congrArg (D (ix2 g q) * ·) ?_
  unfold basis
  refine congrArg (fun i => (FloatOps.ofBits .f32 (lit1 i) : Ideal .f32)) (Fin.ext ?_)
  rw [Shape.rowMajor_val_two]
  show q.val * 9 + (3 * a.val + b.val) = 9 * q.val + (3 * a.val + b.val)
  omega

/-- The reference. -/
def stress : FVec Ideal S500x3x3 .f32 := compose (comps (iso x batch natoms W1 b1 W2 b2 W3 b3) (aniso x batch natoms lw lb))
end

/-- The result's printed term is that. -/
theorem res_eq (m : (ℓ : Loc nD τ sig) → Buf (Elt Ideal) ℓ) (c : Dev nD) : Cert.ReferenceIdeal.Value.res_main_v45 m c
    = stress (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  unfold Cert.ReferenceIdeal.Value.res_main_v45 stress compose comps iso aniso scalars fives ids lower prods taken picks last act lin plane0
  rfl

end Cert.ReferenceIdeal.Read

end
-- ==== Proof.PCount.lean ====
/- The condition on the atom counts, read: a graph's count is the number of its nodes, and it is not zero. -/
module

public import proofs.«01_k».proof.Pre_atoms_counted
public import proofs.«01_k».proof.Proof.RScatter

@[expose] public section

set_option maxRecDepth 16384

noncomputable section

namespace Cert.Pre_atoms_counted.Read

open Cert.Pre_atoms_counted Cert.Stress Idealize.ShloMosaic

/-- The condition's side conditions. -/
instance facts : Cert.Pre_atoms_counted.Facts where
  bcast_S_S50000 := by decide
  bcast_S_S500 := by decide
  bcast_S50000_S50000x1_0 := by decide
  scatter_S500_S50000x1_S50000_n_0_0_1_wf := by decide

/-- Counting by a fold that adds one at each hit. -/
theorem fold_count {ι : Type} (P : ι → Prop) [DecidablePred P] (l : List ι) (z : ℕ) :
    l.foldl (fun a n => if P n then IntOp.addi a 1#32 else a) (BitVec.ofNat 32 z) = BitVec.ofNat 32 (z + l.countP fun n => decide (P n)) := by
  induction l generalizing z with
  | nil => simp
  | cons n l ih =>
    rw [List.foldl_cons, List.countP_cons]
    by_cases h : P n
    · rw [if_pos h, show IntOp.addi (BitVec.ofNat 32 z) 1#32 = BitVec.ofNat 32 (z + 1) from (BitVec.ofNat_add z 1).symm, ih, if_pos (by simpa using h)]
      congr 1; omega
    · rw [if_neg h, ih, if_neg (by simpa using h)]; rfl

/-- The scatter that counts. -/
theorem counted (x : IVec S500 32) (idx : IVec S50000x1 32) (u : IVec S50000 32) (g : Fin 500) (hx : x (ix1 g) = 0#32) (hu : ∀ n, u n = 1#32) :
    Host.scatter scatter_S500_S50000x1_S50000_n_0_0_1 IntOp.addi x idx u (ix1 g)
      = BitVec.ofNat 32 (segCount (fun n => idx (ix2 n 0)) g.val) := by
  rw [Routing.scatter_at]
  simp only [hu, hx]
  refine (fold_count (fun n : Fin S50000.numel => scatter_S500_S50000x1_S50000_n_0_0_1.resultIdx? (S50000.rowMajor.symm n) idx = some (ix1 g)) _ 0).trans ?_
  refine congrArg (BitVec.ofNat 32) ?_
  rw [Nat.zero_add, segCount]
  have e : ∀ n : Fin 50000, scatter_S500_S50000x1_S50000_n_0_0_1.resultIdx? (ix1 n) idx = some (ix1 g) ↔ idx (ix2 n 0) = BitVec.ofNat 32 g.val :=
    fun n => Cert.ReferenceIdeal.Read.lands1 idx n g
  simp only [← e]
  rw [List.countP_eq_length_filter]
  show (Finset.univ.filter fun n : Fin S50000.numel => scatter_S500_S50000x1_S50000_n_0_0_1.resultIdx? (S50000.rowMajor.symm n) idx = some (ix1 g)).card = _
  refine Finset.card_bij' (fun n _ => (S50000.rowMajor.symm n) 0) (fun n _ => S50000.rowMajor (ix1 n)) ?_ ?_ ?_ ?_
  · intro n h
    refine Finset.mem_filter.mpr ⟨Finset.mem_univ _, ?_⟩
    rw [ix1_eta (n0 := 50000)]
    exact (Finset.mem_filter.mp h).2
  · intro n h
    refine Finset.mem_filter.mpr ⟨Finset.mem_univ _, ?_⟩
    rw [Equiv.symm_apply_apply]
    exact (Finset.mem_filter.mp h).2
  · intro n _
    exact (congrArg S50000.rowMajor (ix1_eta (n0 := 50000) (S50000.rowMajor.symm n))).trans (Equiv.apply_symm_apply _ n)
  · intro n _
    exact congrFun (Equiv.symm_apply_apply S50000.rowMajor (ix1 n)) 0

/-- What the condition says of a graph. -/
theorem count_eq (a0 : FVec Ideal S50000x9x128 .f32) (batch : IVec S50000 32) (natoms : IVec S500 32) (a3 : FVec Ideal S128x128 .f32)
    (a4 : FVec Ideal S128 .f32) (a5 : FVec Ideal S128x128 .f32) (a6 : FVec Ideal S128 .f32) (a7 : FVec Ideal S1x128 .f32) (a8 : FVec Ideal S1 .f32)
    (a9 : FVec Ideal S3x1x128 .f32) (a10 : FVec Ideal S1 .f32) (g : Fin 500)
    (h : fn a0 batch natoms a3 a4 a5 a6 a7 a8 a9 a10 (ix1 g) = 1#1) :
    natoms (ix1 g) = BitVec.ofNat 32 (segCount (fun n => batch (ix1 n)) g.val) ∧ 1 ≤ segCount (fun n => batch (ix1 n)) g.val
      ∧ segCount (fun n => batch (ix1 n)) g.val ≤ 50000 := by
  have hc := counted (broadcastInDim S500 ![] Facts.bcast_S_S500 (constantI S_ 32 0#32))
    (broadcastInDim S50000x1 ![0] Facts.bcast_S50000_S50000x1_0 batch) (broadcastInDim S50000 ![] Facts.bcast_S_S50000 (constantI S_ 32 1#32)) g rfl (fun _ => rfl)
  have hb : (fun n : Fin 50000 => (broadcastInDim S50000x1 ![0] Facts.bcast_S50000_S50000x1_0 batch) (ix2 n 0)) = fun n => batch (ix1 n) := by
    funext n; pointwise
  rw [hb] at hc
  have hle : segCount (fun n => batch (ix1 n)) g.val ≤ 50000 := by
    unfold segCount
    exact (Finset.card_le_univ _).trans (by simp)
  have h' : IntOp.andi (IntOp.cmpi .eq (natoms (ix1 g)) (Host.scatter scatter_S500_S50000x1_S50000_n_0_0_1 IntOp.addi
      (broadcastInDim S500 ![] Facts.bcast_S_S500 (constantI S_ 32 0#32)) (broadcastInDim S50000x1 ![0] Facts.bcast_S50000_S50000x1_0 batch)
      (broadcastInDim S50000 ![] Facts.bcast_S_S50000 (constantI S_ 32 1#32)) (ix1 g))) (IntOp.cmpi .sge (natoms (ix1 g)) 1#32) = 1#1 := h
  rw [hc] at h'
  generalize segCount (fun n => batch (ix1 n)) g.val = k at h' hle ⊢
  generalize natoms (ix1 g) = b at h' ⊢
  have h1 : b = BitVec.ofNat 32 k := by
    by_contra hne
    rw [show IntOp.cmpi .eq b (BitVec.ofNat 32 k) = 0#1 by simp [IntOp.cmpi, beq_false_of_ne hne]] at h'
    revert h'; generalize IntOp.cmpi .sge b 1#32 = y; revert y; decide
  refine ⟨h1, ?_, hle⟩
  by_contra hk
  obtain rfl : k = 0 := by omega
  subst h1
  revert h'; decide

end Cert.Pre_atoms_counted.Read

end
-- ==== Proof.IStep.lean ====
/- The body's step at an element, over the extended reals: each row of a block that belongs to it adds the node's value to the
   accumulator's row of the node's graph. -/
module

public import proofs.«01_k».proof.Proof.IValue
public import proofs.«01_k».proof.Proof.Stress
public import Idealize.ShloMosaic.Lib.Pointwise
public import Idealize.ShloMosaic.Lib.Tactic.WordOmega

@[expose] public section

set_option maxRecDepth 16384

noncomputable section

namespace Cert.KernelIdeal.Flow

open Cert.KernelIdeal Cert.KernelIdeal.Gen Cert.Stress Idealize.ShloMosaic

/-- The signed order of the words of small naturals. -/
theorem slt_ofNat {a b : ℕ} (ha : a < 2 ^ 31) (hb : b < 2 ^ 31) : (BitVec.ofNat 32 a).slt (BitVec.ofNat 32 b) = decide (a < b) := by
  simp only [BitVec.slt]
  rw [BitVec.toInt_eq_toNat_of_lt (by simp; omega), BitVec.toInt_eq_toNat_of_lt (by simp; omega)]
  simp only [BitVec.toNat_ofNat]
  rw [Nat.mod_eq_of_lt (by omega), Nat.mod_eq_of_lt (by omega)]
  simp

/-- The rows of a block that belong to it: those not already in the block before. -/
theorem mask_apply (k : ℕ) (hk : k < 98) (r : Fin 512) :
    k0_pay3 (BitVec.ofNat 32 k) 512#32 (ix2 r 0) = if 512 * k ≤ (row k r).val then 1#1 else 0#1 := by
  pointwise [k0_pay3]
  have hr := r.isLt
  have e1 : Scalar.muli (BitVec.ofNat 32 k) 512#32 = BitVec.ofNat 32 (512 * k) := by
    unfold Scalar.muli IntOp.muli
    apply BitVec.eq_of_toNat_eq; simp; omega
  have e2 : Scalar.minsi (BitVec.ofNat 32 (512 * k)) 49488#32 = BitVec.ofNat 32 (min (512 * k) 49488) := by
    unfold Scalar.minsi IntOp.minsi; rw [slt_ofNat (by omega) (by omega)]
    by_cases h : 512 * k < 49488
    · simp only [h, decide_true, ↓reduceIte, min_eq_left h.le]
    · simp only [h, decide_false, Bool.false_eq_true, ↓reduceIte, min_eq_right (not_lt.mp h)]
  rw [e1, e2, show IntOp.addi (BitVec.ofNat 32 r.val) (BitVec.ofNat 32 (min (512 * k) 49488)) = BitVec.ofNat 32 (row k r).val by
    unfold IntOp.addi row; apply BitVec.eq_of_toNat_eq; simp; omega]
  unfold IntOp.cmpi
  have := (row k r).isLt
  simp only [BitVec.sle_eq_not_slt, slt_ofNat (show (row k r).val < 2 ^ 31 by omega) (show 512 * k < 2 ^ 31 by omega)]
  by_cases h : 512 * k ≤ (row k r).val
  · simp [h, not_lt.mpr h]
  · simp [h, not_le.mp h]

theorem select_one {α : Type} (a b : α) : Scalar.select 1#1 a b = a := rfl
theorem select_zero {α : Type} (a b : α) : Scalar.select 0#1 a b = b := rfl

/-- The one-hot entry. -/
theorem hot (a b : BitVec 32) : (FloatOps.sitofp .f32 (BitVec.setWidth 32 (IntOp.cmpi .eq a b)) : Ideal .f32) = if b = a then 1 else 0 := by
  by_cases h : b = a
  · subst h; simp [IntOp.cmpi, FloatOps.sitofp]
  · have : (a == b) = false := beq_false_of_ne fun e => h e.symm
    simp [IntOp.cmpi, FloatOps.sitofp, h, this]

section
variable (i : BitVec 32) (v : IVec S512x1 1) (P : Vec Ideal S1x1x512x128 .f32) (w1 w2 : Vec Ideal S128x128 .f32)
  (b1 b2 w3 wr : Vec Ideal S1x128 .f32) (r : Fin 512) (z : Fin 1)

/-- The scalar of a row that counts. -/
theorem scalar_apply (h : k0_pay3 i 512#32 (ix2 r 0) = 1#1) : k0_pay4 i 512#32 P w1 b1 w2 b2 w3 (ix2 r z)
    = scal (fun l => P (ix4 0 0 r l)) (fun x j => w1 (ix2 x j)) (fun j => b1 (ix2 0 j)) (fun x j => w2 (ix2 x j))
        (fun j => b2 (ix2 0 j)) (fun j => w3 (ix2 0 j)) := by
  pointwise [k0_pay4]
  simp only [h, select_one, scal, Stress.hidden, silu]

/-- The dot product of a row that counts, three times as printed. -/
theorem dot6_apply (h : v (ix2 r 0) = 1#1) : k0_pay6 v wr P (ix2 r z) = ∑ l, P (ix4 0 0 r l) * wr (ix2 0 l) := by
  pointwise [k0_pay6, k0_pay5]
  simp only [h, select_one]
theorem dot7_apply (h : v (ix2 r 0) = 1#1) : k0_pay7 v wr P (ix2 r z) = ∑ l, P (ix4 0 0 r l) * wr (ix2 0 l) := by
  pointwise [k0_pay7, k0_pay5]
  simp only [h, select_one]
theorem dot8_apply (h : v (ix2 r 0) = 1#1) : k0_pay8 v wr P (ix2 r z) = ∑ l, P (ix4 0 0 r l) * wr (ix2 0 l) := by
  pointwise [k0_pay8, k0_pay5]
  simp only [h, select_one]
/-- A plane masked. -/
theorem masked_apply (h : v (ix2 r 0) = 1#1) (l : Fin 128) : k0_pay9 v P (ix2 r l) = P (ix4 0 0 r l) := by
  pointwise [k0_pay9]
  simp only [h, select_one]
theorem same_apply (l : Fin 128) : k0_pay5 wr (ix2 0 l) = wr (ix2 0 l) := by pointwise [k0_pay5]
end

/-- The step at an element. -/
theorem accStep_apply (k : ℕ) (hk : k < 98) (ids : Vec Ideal S1x1x512 .i32) (w1 w2 : Vec Ideal S128x128 .f32)
    (b1 b2 w3 wr : Vec Ideal S1x128 .f32) (P : Fin 6 → Vec Ideal S1x1x512x128 .f32) (a : Vec Ideal S512x8 .f32) (g : Fin 512) (q : Fin 8) :
    accStep (BitVec.ofNat 32 k) ids w1 w2 b1 b2 w3 wr P a (ix2 g q)
      = a (ix2 g q) + ∑ r : Fin 512, if 512 * k ≤ (row k r).val then
          (if ids (ix3 0 0 r) = BitVec.ofNat 32 g.val then
            vals (fun p l => P p (ix4 0 0 r l)) (fun x j => w1 (ix2 x j)) (fun j => b1 (ix2 0 j)) (fun x j => w2 (ix2 x j))
              (fun j => b2 (ix2 0 j)) (fun j => w3 (ix2 0 j)) (fun j => wr (ix2 0 j)) q else 0) else 0 := by
  unfold accStep
  pointwise [k0_pay10]
  refine congrArg (a (ix2 g q) + ·) (Finset.sum_congr rfl fun r _ => ?_)
  rw [hot]
  have hm := mask_apply k hk r
  by_cases hv : 512 * k ≤ (row k r).val
  · rw [if_pos hv] at hm ⊢
    simp only [hm, select_one, ite_mul, one_mul, zero_mul, ↓reduceIte]
    split
    · fin_vals q with hq
      all_goals simp only [vals, hq, Nat.reduceSub, Nat.reduceLT, ↓reduceDIte, ↓reduceIte]
      all_goals try simp only [scalar_apply _ _ _ _ _ _ _ r _ hm, dot6_apply _ _ _ r _ hm, dot7_apply _ _ _ r _ hm, dot8_apply _ _ _ r _ hm, masked_apply _ _ r hm, same_apply]
      all_goals rfl
    · rfl
  · rw [if_neg hv] at hm ⊢
    simp only [hm, select_zero]

end Cert.KernelIdeal.Flow

end
-- ==== Proof.ITable.lean ====
/- The table of row numbers that the host gathers the graph ids by: entry `(t, r)` is the node in row `r` of block `t`. -/
module

public import proofs.«01_k».proof.KernelIdeal
public import proofs.«01_k».proof.Proof.Stress

@[expose] public section

set_option maxRecDepth 100000

noncomputable section

namespace Cert.KernelIdeal.Flow

open Cert.KernelIdeal Cert.Stress Idealize.ShloMosaic

/-- A function of a small number, spelt as a match on it: of 128 arms, -/
def pick128 (f : ℕ → BitVec 32) (x : ℕ) : BitVec 32 := match x with
  | 0 => f 0 | 1 => f 1 | 2 => f 2 | 3 => f 3 | 4 => f 4 | 5 => f 5 | 6 => f 6 | 7 => f 7
  | 8 => f 8 | 9 => f 9 | 10 => f 10 | 11 => f 11 | 12 => f 12 | 13 => f 13 | 14 => f 14 | 15 => f 15
  | 16 => f 16 | 17 => f 17 | 18 => f 18 | 19 => f 19 | 20 => f 20 | 21 => f 21 | 22 => f 22 | 23 => f 23
  | 24 => f 24 | 25 => f 25 | 26 => f 26 | 27 => f 27 | 28 => f 28 | 29 => f 29 | 30 => f 30 | 31 => f 31
  | 32 => f 32 | 33 => f 33 | 34 => f 34 | 35 => f 35 | 36 => f 36 | 37 => f 37 | 38 => f 38 | 39 => f 39
  | 40 => f 40 | 41 => f 41 | 42 => f 42 | 43 => f 43 | 44 => f 44 | 45 => f 45 | 46 => f 46 | 47 => f 47
  | 48 => f 48 | 49 => f 49 | 50 => f 50 | 51 => f 51 | 52 => f 52 | 53 => f 53 | 54 => f 54 | 55 => f 55
  | 56 => f 56 | 57 => f 57 | 58 => f 58 | 59 => f 59 | 60 => f 60 | 61 => f 61 | 62 => f 62 | 63 => f 63
  | 64 => f 64 | 65 => f 65 | 66 => f 66 | 67 => f 67 | 68 => f 68 | 69 => f 69 | 70 => f 70 | 71 => f 71
  | 72 => f 72 | 73 => f 73 | 74 => f 74 | 75 => f 75 | 76 => f 76 | 77 => f 77 | 78 => f 78 | 79 => f 79
  | 80 => f 80 | 81 => f 81 | 82 => f 82 | 83 => f 83 | 84 => f 84 | 85 => f 85 | 86 => f 86 | 87 => f 87
  | 88 => f 88 | 89 => f 89 | 90 => f 90 | 91 => f 91 | 92 => f 92 | 93 => f 93 | 94 => f 94 | 95 => f 95
  | 96 => f 96 | 97 => f 97 | 98 => f 98 | 99 => f 99 | 100 => f 100 | 101 => f 101 | 102 => f 102 | 103 => f 103
  | 104 => f 104 | 105 => f 105 | 106 => f 106 | 107 => f 107 | 108 => f 108 | 109 => f 109 | 110 => f 110 | 111 => f 111
  | 112 => f 112 | 113 => f 113 | 114 => f 114 | 115 => f 115 | 116 => f 116 | 117 => f 117 | 118 => f 118 | 119 => f 119
  | 120 => f 120 | 121 => f 121 | 122 => f 122 | 123 => f 123 | 124 => f 124 | 125 => f 125 | 126 => f 126 | 127 => f 127
  | _ => 0#32
/-- of eight, -/
def pick8 (f : ℕ → BitVec 32) (x : ℕ) : BitVec 32 := match x with
  | 0 => f 0 | 1 => f 1 | 2 => f 2 | 3 => f 3 | 4 => f 4 | 5 => f 5 | 6 => f 6 | 7 => f 7
  | _ => 0#32
/-- and of four. -/
def pick4 (f : ℕ → BitVec 32) (x : ℕ) : BitVec 32 := match x with
  | 0 => f 0 | 1 => f 1 | 2 => f 2 | 3 => f 3
  | _ => 0#32

theorem pick128_eq (f : ℕ → BitVec 32) : ∀ x : Fin 128, pick128 f x.val = f x.val := by
  intro x; fin_cases x <;> rfl
theorem pick8_eq (f : ℕ → BitVec 32) : ∀ x : Fin 8, pick8 f x.val = f x.val := by
  intro x; fin_cases x <;> rfl
theorem pick4_eq (f : ℕ → BitVec 32) : ∀ x : Fin 4, pick4 f x.val = f x.val := by
  intro x; fin_cases x <;> rfl

/-- Which node entry `n` of the table names. -/
def node (n : ℕ) : ℕ := min (512 * (n / 512)) 49488 + n % 512

/-- The table's quarters: three whole ones, -/
theorem quarter0 (i : ℕ) : lit0t1_0 i = pick128 (fun b => pick128 (fun j => BitVec.ofNat 32 (node (128 * b + j))) (i % 128)) (i / 128 % 128) := rfl
theorem quarter1 (i : ℕ) : lit0t1_1 i = pick128 (fun b => pick128 (fun j => BitVec.ofNat 32 (node (16384 + 128 * b + j))) (i % 128)) (i / 128 % 128) := rfl
theorem quarter2 (i : ℕ) : lit0t1_2 i = pick128 (fun b => pick128 (fun j => BitVec.ofNat 32 (node (32768 + 128 * b + j))) (i % 128)) (i / 128 % 128) := rfl
/-- and one of eight runs. -/
theorem quarter3 (i : ℕ) : lit0t1_3 i = pick8 (fun b => pick128 (fun j => BitVec.ofNat 32 (node (49152 + 128 * b + j))) (i % 128)) (i / 128 % 128) := rfl

/-- Each entry names its node. -/
theorem table_word (i : ℕ) (hi : i < 50176) : lit0t i = BitVec.ofNat 32 (node i) := by
  have p (f : ℕ → BitVec 32) (x : ℕ) (h : x < 128) : pick128 f x = f x := pick128_eq f ⟨x, h⟩
  have p8 (f : ℕ → BitVec 32) (x : ℕ) (h : x < 8) : pick8 f x = f x := pick8_eq f ⟨x, h⟩
  have e0 : lit0t i = pick4 (fun a => match a with | 0 => lit0t1_0 i | 1 => lit0t1_1 i | 2 => lit0t1_2 i | _ => lit0t1_3 i) (i / 16384) := rfl
  rw [e0, show ∀ f : ℕ → BitVec 32, pick4 f (i / 16384) = f (i / 16384) from fun f => pick4_eq f ⟨i / 16384, by omega⟩]
  have ha : i / 16384 = 0 ∨ i / 16384 = 1 ∨ i / 16384 = 2 ∨ i / 16384 = 3 := by omega
  rcases ha with h | h | h | h <;> simp only [h]
  · rw [quarter0, p _ _ (Nat.mod_lt _ (by decide)), p _ _ (Nat.mod_lt _ (by decide))]; congr 2; omega
  · rw [quarter1, p _ _ (Nat.mod_lt _ (by decide)), p _ _ (Nat.mod_lt _ (by decide))]; congr 2; omega
  · rw [quarter2, p _ _ (Nat.mod_lt _ (by decide)), p _ _ (Nat.mod_lt _ (by decide))]; congr 2; omega
  · rw [quarter3, p8 _ _ (by omega), p _ _ (Nat.mod_lt _ (by decide))]; congr 2; omega

/-- The table at block `t` and row `r`. -/
theorem table_row (t : ℕ) (ht : t < 98) (r : Fin 512) (h : 512 * t + r.val < 50176) : lit0 ⟨512 * t + r.val, h⟩ = BitVec.ofNat 32 (row t r).val := by
  refine (table_word _ h).trans (congrArg _ ?_)
  have := r.isLt
  unfold node; simp only [row]; omega

end Cert.KernelIdeal.Flow

end
-- ==== Proof.IWindow.lean ====
/- What the kernel's blocks hold, read off the arguments: the streamed planes, the weights and biases, the reciprocals of the atom
   counts, the last bias, the change of basis and the graph ids. -/
module

public import proofs.«01_k».proof.Proof.IFrame
public import proofs.«01_k».proof.Proof.ITable
public import Idealize.ShloMosaic.Lib.StableHlo.ReadAt
public import Idealize.ShloMosaic.Lib.Claim
public import Idealize.ShloMosaic.Lib.Pointwise
public import Idealize.ShloMosaic.Lib.Pipeline.ValueKit
public import Idealize.ShloMosaic.Lib.Routing.OpsOne

@[expose] public section

set_option maxRecDepth 16384

noncomputable section

namespace Cert.KernelIdeal.Flow

open Cert.KernelIdeal Cert.KernelIdeal.Gen Cert.Stress Idealize.ShloMosaic Idealize.ShloMosaic.TcCoe Idealize.ShloMosaic.Tactic

variable (m : (ℓ : Loc nD τ sig) → Buf (Elt Ideal) ℓ)

/-- Unit axes dropped. -/
theorem drop4 (X : Vec Ideal S1x1x512x128 .f32) (h : S1x1x512x128.ShapeCasts S512x128) (r : Fin 512) (l : Fin 128) :
    shapeCast S512x128 X h (ix2 r l) = X (ix4 0 0 r l) := by pointwise
theorem drop3 (X : Vec Ideal S512x1x128 .f32) (h : S512x1x128.ShapeCasts S512x128) (r : Fin 512) (l : Fin 128) :
    shapeCast S512x128 X h (ix2 r l) = X (ix3 r 0 l) := by pointwise

/-- A slot read through its box, or as the view it is. -/
theorem slot_read (k : ℕ) (p : Fin 6) (f : ringBuf.view.ty.Contents (Elt Ideal)) (r : Fin 512) (l : Fin 128) :
    View.readAt (Elt Ideal) ringBuf.view (Rect.unit (s := S2x6x512x128) ![k % 2, p.val, 0, 0] S1x1x512x128.size (slot_inb k p)).toLoadRect f (ix4 0 0 r l)
      = View.read (Elt Ideal) (slot k p).view f (ix2 r l) :=
  (drop4 (View.readAt (Elt Ideal) ringBuf.view
    (Rect.unit (s := S2x6x512x128) ![k % 2, p.val, 0, 0] S1x1x512x128.size (slot_inb k p)).toLoadRect f) (by decide) r l).symm

/-- A plane of a block of the operand, read. -/
theorem blk_read (k : ℕ) (p : Fin 6) (W : xHbm.view.ty.Contents (Elt Ideal)) (r : Fin 512) (l : Fin 128) :
    View.read (Elt Ideal) (blk k p).view W (ix2 r l)
      = xHbm.view.read (Elt Ideal) W ((Rect.unit (s := S50000x9x128) ![blkRow k, planeOf p, 0] S512x1x128.size (blk_inb k p)).emb (ix3 r 0 l)) :=
  drop3 (fun y => xHbm.view.read (Elt Ideal) W ((Rect.unit (s := S50000x9x128) ![blkRow k, planeOf p, 0] S512x1x128.size (blk_inb k p)).emb y)) (by decide) r l

/-- A plane of a block at a row and a channel. -/
theorem plane_apply (c : Dev nD) (W : Cont (F := Ideal) c xHbm) (k : ℕ) (p : Fin 6) (r : Fin 512) (l : Fin 128) :
    plane c W k p (ix4 0 0 r l) = W (ix3 (row k r) ⟨planeOf p, by have := planeOf_le p; omega⟩ l) := by
  unfold plane
  refine (slot_read k p _ r l).trans ?_
  rw [View.read_writes_whole]
  refine (blk_read k p W r l).trans ?_
  have e : (Rect.unit (s := S50000x9x128) ![blkRow k, planeOf p, 0] S512x1x128.size (blk_inb k p)).emb (ix3 r 0 l)
      = ix3 (row k r) ⟨planeOf p, by have := planeOf_le p; omega⟩ l := by
    funext a; apply Fin.ext
    fin_cases a
    · show blkRow k + 1 * r.val = min (512 * k) 49488 + r.val
      unfold blkRow; omega
    · show planeOf p + 1 * 0 = planeOf p
      omega
    · show 0 + 1 * l.val = l.val
      omega
  rw [e]; rfl

theorem coords_val : ∀ t : Fin grid0.N, (grid0.coords t 0).val = t.val := by decide +kernel

/-- The windows that are one block hold it at every point, and the ids' window moves with the point. -/
theorem index_eq : ∀ t : Fin grid0.N, win0_0.index t = ![t.val, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] := by decide +kernel

theorem V_v8 (c : Dev nD) (x j : Fin 128) : V m c main_v8 (ix2 x j) = m ((c : Thread nD τ).loc main_arg3) (ix2 j x) := by
  unfold V V0
  after_reads_at
theorem blk1_apply (c : Dev nD) (t : Fin cfg0.N) (x j : Fin 128) : iblk m c 1 t (ix2 x j) = m ((c : Thread nD τ).loc main_arg3) (ix2 j x) := by
  refine Eq.trans ?_ (V_v8 m c x j)
  blk_ext [iblk, index_eq t]
theorem V_v9 (c : Dev nD) (x j : Fin 128) : V m c main_v9 (ix2 x j) = m ((c : Thread nD τ).loc main_arg5) (ix2 j x) := by
  unfold V V0
  after_reads_at
theorem blk2_apply (c : Dev nD) (t : Fin cfg0.N) (x j : Fin 128) : iblk m c 2 t (ix2 x j) = m ((c : Thread nD τ).loc main_arg5) (ix2 j x) := by
  refine Eq.trans ?_ (V_v9 m c x j)
  blk_ext [iblk, index_eq t]
theorem V_v10 (c : Dev nD) (j : Fin 128) : V m c main_v10 (ix2 0 j) = m ((c : Thread nD τ).loc main_arg4) (ix1 j) := by
  unfold V V0
  after_reads_at
theorem blk3_apply (c : Dev nD) (t : Fin cfg0.N) (j : Fin 128) : iblk m c 3 t (ix2 0 j) = m ((c : Thread nD τ).loc main_arg4) (ix1 j) := by
  refine Eq.trans ?_ (V_v10 m c j)
  blk_ext [iblk, index_eq t]
theorem V_v11 (c : Dev nD) (j : Fin 128) : V m c main_v11 (ix2 0 j) = m ((c : Thread nD τ).loc main_arg6) (ix1 j) := by
  unfold V V0
  after_reads_at
theorem blk4_apply (c : Dev nD) (t : Fin cfg0.N) (j : Fin 128) : iblk m c 4 t (ix2 0 j) = m ((c : Thread nD τ).loc main_arg6) (ix1 j) := by
  refine Eq.trans ?_ (V_v11 m c j)
  blk_ext [iblk, index_eq t]
theorem V_v13 (c : Dev nD) (j : Fin 128) : V m c main_v13 (ix2 0 j) = m ((c : Thread nD τ).loc main_arg9) (ix3 2 0 j) := by
  unfold V V0
  after_reads_at
theorem blk6_apply (c : Dev nD) (t : Fin cfg0.N) (j : Fin 128) : iblk m c 6 t (ix2 0 j) = m ((c : Thread nD τ).loc main_arg9) (ix3 2 0 j) := by
  refine Eq.trans ?_ (V_v13 m c j)
  blk_ext [iblk, index_eq t]

theorem blk5_apply (c : Dev nD) (t : Fin cfg0.N) (j : Fin 128) : iblk m c 5 t (ix2 0 j) = m ((c : Thread nD τ).loc main_arg7) (ix2 0 j) := by
  refine Eq.trans ?_ (congrFun (V_main_arg7 m c) (ix2 0 j))
  blk_ext [iblk, index_eq t]

/-- The reciprocals. -/
theorem V_v19 (c : Dev nD) (g : Fin 512) (q : Fin 8) (hg : g.val < 500) : V m c main_v19 (ix2 g q)
    = Ideal.div 1 (FloatOps.sitofp .f32 (m ((c : Thread nD τ).loc main_arg2) (ix1 ⟨g.val, hg⟩) : BitVec 32) : Ideal .f32) := by
  unfold V V0
  after_reads_at
  rw [dif_pos hg]
theorem blk7_apply (c : Dev nD) (t : Fin cfg0.N) (g : Fin 512) (q : Fin 8) (hg : g.val < 500) : iblk m c 7 t (ix2 g q)
    = Ideal.div 1 (FloatOps.sitofp .f32 (m ((c : Thread nD τ).loc main_arg2) (ix1 ⟨g.val, hg⟩) : BitVec 32) : Ideal .f32) := by
  refine Eq.trans ?_ (V_v19 m c g q hg)
  blk_ext [iblk, index_eq t]

theorem V_v25 (c : Dev nD) (q : Fin 8) : V m c main_v25 (ix2 0 q) = if q.val = 0 then m ((c : Thread nD τ).loc main_arg8) (ix1 0) else (0 : EReal) := by
  unfold V V0
  after_reads_simp
  clean_types
  generalize hI : concatenate S2 0 _ _ = idx
  have h0 : ∀ i : Fin 2, idx (ix1 i) = 0#32 := by
    intro i; rw [← hI]
    after_reads_simp
    clean_types
    pointwise
    split <;> rfl
  rw [ix2_eq_valueIdx, Routing.scatter_cell_signed _ rfl rfl rfl, ← ix1_eq_valueIdx, ← ix1_eq_valueIdx, h0, h0, ← ix0_eq_valueIdx]
  pointwise
  by_cases h : q.val = 0
  · rw [if_pos h, if_pos ⟨rfl, by rw [h]; rfl⟩]
  · rw [if_neg h, if_neg fun e => h (by have := e.2; simp at this; omega)]
theorem blk8_apply (c : Dev nD) (t : Fin cfg0.N) (q : Fin 8) : iblk m c 8 t (ix2 0 q) = if q.val = 0 then m ((c : Thread nD τ).loc main_arg8) (ix1 0) else (0 : EReal) := by
  refine Eq.trans ?_ (V_v25 m c q)
  blk_ext [iblk, index_eq t]

theorem V_cst (c : Dev nD) (q : Fin 8) (l : Fin 128) : V m c main_cst (ix2 q l)
    = (FloatOps.ofBits .f32 (lit1 ⟨128 * q.val + l.val, by have := q.isLt; have := l.isLt; omega⟩) : Ideal .f32) := by
  unfold V V0
  after_reads_simp
  refine congrArg (fun i => (FloatOps.ofBits .f32 (lit1 i) : Ideal .f32)) (Fin.ext ?_)
  rw [Shape.rowMajor_val_two]
  show q.val * 128 + l.val = 128 * q.val + l.val
  omega
theorem blk9_apply (c : Dev nD) (t : Fin cfg0.N) (q : Fin 8) (l : Fin 128) : iblk m c 9 t (ix2 q l)
    = (FloatOps.ofBits .f32 (lit1 ⟨128 * q.val + l.val, by have := q.isLt; have := l.isLt; omega⟩) : Ideal .f32) := by
  refine Eq.trans ?_ (V_cst m c q l)
  blk_ext [iblk, index_eq t]

/-- The gather of the graph ids takes the id that the entry names. -/
theorem gather_id (x : S50000.Idx → BitVec 32) (idx : IVec S98x512x1 32) (t : Fin 98) (r : Fin 512) (n : Fin 50000)
    (h : idx (ix3 t r 0) = BitVec.ofNat 32 n.val) : Host.gather gather_S50000_S98x512x1_S98x512_n_0_n_n_0_2_1 x idx (ix2 t r) = x (ix1 n) := by
  unfold Host.gather
  refine congrArg x (funext fun a => Fin.ext ?_)
  have hs : gather_S50000_S98x512x1_S98x512_n_0_n_n_0_2_1.siIdx (ix2 t r) ⟨0, by decide⟩ = ix3 t r 0 := by
    funext b; fin_cases b <;> rfl
  match a with
  | ⟨0, _⟩ =>
    show GatherDims.start _ _ _ 0 + 0 + 0 = n.val
    unfold GatherDims.start
    rw [dif_pos (by decide)]
    show min (idx (gather_S50000_S98x512x1_S98x512_n_0_n_n_0_2_1.siIdx (ix2 t r) ⟨0, by decide⟩)).toInt.toNat (50000 - 1) = n.val
    have := n.isLt
    rw [hs, h, BitVec.toInt_eq_toNat_of_lt (by simp; omega)]
    simp; omega

theorem V_v7 (c : Dev nD) (t : Fin 98) (r : Fin 512) : V m c main_v7 (ix3 t 0 r) = m ((c : Thread nD τ).loc main_arg1) (ix1 (row t.val r)) := by
  unfold V V0
  after_reads_at
  refine gather_id _ _ t r _ ?_
  have hl : lit0 (S98x512.rowMajor (ix2 t r)) = BitVec.ofNat 32 (row t.val r).val := by
    rw [← table_row t.val t.isLt r (by have := t.isLt; have := r.isLt; omega)]
    refine congrArg lit0 (Fin.ext ?_)
    rw [Shape.rowMajor_val_two]
    show t.val * 512 + r.val = 512 * t.val + r.val
    omega
  pointwise
  rw [hl]
  refine Routing.wrap_of_lt _ _ ?_
  have := (row t.val r).isLt
  simp; omega
theorem blk0_apply (c : Dev nD) (t : Fin cfg0.N) (r : Fin 512) : iblk m c 0 t (ix3 0 0 r) = m ((c : Thread nD τ).loc main_arg1) (ix1 (row t.val r)) := by
  refine Eq.trans ?_ (V_v7 m c t r)
  blk_ext [iblk, index_eq t]

end Cert.KernelIdeal.Flow

end
-- ==== Proof.IResult.lean ====
/- What the kernel returns: the accumulator's sums over the graphs' nodes, the output array made from them, and the 3×3 results. -/
module

public import proofs.«01_k».proof.Proof.IStep
public import proofs.«01_k».proof.Proof.IWindow

@[expose] public section

set_option maxRecDepth 16384

noncomputable section

namespace Cert.KernelIdeal.Flow

open Cert.KernelIdeal Cert.KernelIdeal.Gen Cert.Stress Idealize.ShloMosaic Idealize.ShloMosaic.TcCoe Idealize.ShloMosaic.Tactic

variable (m : (ℓ : Loc nD τ sig) → Buf (Elt Ideal) ℓ) (ρ : Dev nD → PrngReg)

/-- A node's values, from the arguments. -/
def nodeVals (c : Dev nD) (n : Fin 50000) (q : Fin 8) : EReal :=
  vals (fun p l => m ((c : Thread nD τ).loc main_arg0) (ix3 n ⟨planeOf p, by have := planeOf_le p; omega⟩ l))
    (fun x j => m ((c : Thread nD τ).loc main_arg3) (ix2 j x)) (fun j => m ((c : Thread nD τ).loc main_arg4) (ix1 j))
    (fun x j => m ((c : Thread nD τ).loc main_arg5) (ix2 j x)) (fun j => m ((c : Thread nD τ).loc main_arg6) (ix1 j))
    (fun j => m ((c : Thread nD τ).loc main_arg7) (ix2 0 j)) (fun j => m ((c : Thread nD τ).loc main_arg9) (ix3 2 0 j)) q

/-- A node's graph. -/
def graphOf (c : Dev nD) (n : Fin 50000) : BitVec 32 := m ((c : Thread nD τ).loc main_arg1) (ix1 n)

/-- The accumulator after `k` blocks. -/
theorem accAt_apply (c : Dev nD) (g : Fin 512) (q : Fin 8) : ∀ k : ℕ, k ≤ 98 → accAt m c k (ix2 g q)
    = ∑ t ∈ Finset.range k, ∑ r : Fin 512, (if 512 * t ≤ (row t r).val then
        (if graphOf m c (row t r) = BitVec.ofNat 32 g.val then nodeVals m c (row t r) q else 0) else 0)
  | 0, _ => by
    rw [Finset.sum_range_zero]
    show k0_pay2 (ix2 g q) = 0
    pointwise [k0_pay2]
  | k + 1, hk => by
    have e := accAt_succ m c ⟨k, by rw [show cfg0.N = 98 from N_0]; omega⟩
    rw [Finset.sum_range_succ, ← accAt_apply c g q k (by omega)]
    refine (congrFun e (ix2 g q)).trans ?_
    rw [coords_val]
    refine (accStep_apply k (by omega) _ _ _ _ _ _ _ _ _ g q).trans ?_
    refine congrArg (accAt m c k (ix2 g q) + ·) (Finset.sum_congr rfl fun r _ => ?_)
    simp only [blk0_apply, blk1_apply, blk2_apply, blk3_apply, blk4_apply, blk5_apply, blk6_apply, plane_apply, V_main_arg0]
    rfl

/-- The finished accumulator: each graph's sum. -/
theorem acc_done (c : Dev nD) (g : Fin 512) (q : Fin 8) :
    accAt m c 98 (ix2 g q) = segSum (graphOf m c) (fun n => nodeVals m c n q) g.val :=
  (accAt_apply m c g q 98 le_rfl).trans
    (sum_blocks fun n => if graphOf m c n = BitVec.ofNat 32 g.val then nodeVals m c n q else 0)

/-- The result's arithmetic at an element. -/
theorem pay1_apply (a i : Vec Ideal S512x8 .f32) (b : Vec Ideal S1x8 .f32) (M : Vec Ideal S8x128 .f32) (g : Fin 512) (l : Fin 128) :
    k0_pay1 a i b M (ix2 g l) = ∑ q : Fin 8, (a (ix2 g q) * i (ix2 g q) + b (ix2 0 q)) * M (ix2 q l) := by
  pointwise [k0_pay1]

/-- Entry `q`, `l` of the change of basis. -/
def basis (q : Fin 8) (l : Fin 128) : EReal :=
  (FloatOps.ofBits .f32 (lit1 ⟨128 * q.val + l.val, by have := q.isLt; have := l.isLt; omega⟩) : Ideal .f32)

/-- The number of atoms the argument names for a graph. -/
def atoms (c : Dev nD) (g : Fin 500) : EReal :=
  (FloatOps.sitofp .f32 (m ((c : Thread nD τ).loc main_arg2) (ix1 g) : BitVec 32) : Ideal .f32)

/-- The last bias, in the scalar's column. -/
def lastBias (c : Dev nD) (q : Fin 8) : EReal := if q.val = 0 then m ((c : Thread nD τ).loc main_arg8) (ix1 0) else 0

/-- A result at a graph and an entry. -/
def resAt (c : Dev nD) (g : Fin 500) (l : Fin 128) : EReal :=
  ∑ q : Fin 8, (segSum (graphOf m c) (fun n => nodeVals m c n q) g.val * Ideal.div 1 (atoms m c g) + lastBias m c q) * basis q l

theorem outAt_apply (c : Dev nD) (t : Fin cfg0.N) (g : Fin 512) (l : Fin 128) (hg : g.val < 500) :
    outAt m c t (ix2 g l) = resAt m c ⟨g.val, hg⟩ l := by
  unfold outAt
  rw [pay1_apply]
  refine Finset.sum_congr rfl fun q _ => ?_
  rw [acc_done, blk7_apply m c t g q hg, blk8_apply, blk9_apply]
  rfl

/-- The last point. -/
def lastPt : Fin cfg0.N := Fin.last 97

/-- The output array after the run. -/
theorem out_array (c : Dev nD) : (dats m 0 c).arrAt 10 cfg0.N = outAt m c lastPt := by
  refine (dats m 0 c).arrAt_eq_of_after_last 10 lastPt (by decide +kernel) _ fun j => ?_
  blk_simp
  rw [after_10]

/-- Nine entries as a 3×3 matrix. -/
theorem square (X : Vec Ideal S500x9 .f32) (h : S500x9.ShapeCasts S500x3x3) (g : Fin 500) (a b : Fin 3) :
    shapeCast S500x3x3 X h (ix3 g a b) = X (ix2 g ⟨3 * a.val + b.val, by have := a.isLt; have := b.isLt; omega⟩) := by
  pointwise
  exact congrArg X (congrArg (ix2 g) (Fin.ext (by show a.val * 3 + b.val = 3 * a.val + b.val; omega)))

/-- The result buffer after the host's last lines. -/
theorem tail_apply (c : Dev nD) (g : Fin 500) (a b : Fin 3) :
    Pipeline.afterTail₀ cfgs (dats m) 0 (V0 m) [hostOps1] c main_v28 (ix3 g a b)
      = resAt m c g ⟨3 * a.val + b.val, by have := a.isLt; have := b.isLt; omega⟩ := by
  have ha : Pipeline.withArrays cfg0.spec c (V0 m c) (fun w => (dats m 0 c).arrAt w cfg0.N) (Proc.devRef .tc main_v26) = outAt m c lastPt :=
    (Pipeline.withArrays_arr cfg0.spec launch0.win.arr_inj c (V0 m c) _ 10).trans (out_array m c)
  unfold Pipeline.afterTail₀
  after_reads_simp
  erw [ha]
  generalize hX : outAt m c lastPt = X
  have e : ∀ l : Fin 9, extractStridedSlice S500x9 ![0, 0] X (by decide) (ix2 g l)
      = resAt m c g ⟨l.val, by have := l.isLt; omega⟩ := by
    intro l
    subst hX
    refine Eq.trans ?_ (outAt_apply m c lastPt ⟨g.val, by have := g.isLt; omega⟩ ⟨l.val, by have := l.isLt; omega⟩ g.isLt)
    generalize outAt m c lastPt = X
    pointwise
  exact (square _ _ g a b).trans (e ⟨3 * a.val + b.val, by have := a.isLt; have := b.isLt; omega⟩)

/-- The run: the result buffer at what the host's last lines leave, the arguments unchanged. -/
theorem run_result : θ_run defs (onTc (τ := τ) (main (F := Ideal))) ⟨m, fun _ => 0, ρ⟩ (fun r => ∀ c : Dev nD,
      r.2.mem ((c.tc : Thread nD τ).loc main_v28) = Pipeline.afterTail₀ cfgs (dats m) 0 (V0 m) [hostOps1] c main_v28
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h.1 c).2 main_v28 (Pipeline.mem_restRefs_of main_v28 (by decide) (by decide)), args_kept m r h.1 c⟩)
    (run_main m ρ)

end Cert.KernelIdeal.Flow

end
-- ==== Proof.Mean.lean ====
/- Means over the extended reals: a constant added to each of `k` values adds itself to their mean, also at the infinities. -/
module

public import proofs.«01_k».proof.Proof.Stress

@[expose] public section

noncomputable section

namespace Cert.Stress

open Idealize.ShloMosaic

/-- The sum of the nodes' values with a constant added to each. -/
theorem segSum_add (batch : Fin 50000 → BitVec 32) (f : Fin 50000 → EReal) (b : EReal) (g : ℕ) :
    segSum batch (fun n => f n + b) g = segSum batch f g + segCount batch g • b := by
  unfold segSum segCount
  rw [← Finset.sum_const, Finset.sum_filter, ← Finset.sum_add_distrib]
  refine Finset.sum_congr rfl fun n _ => ?_
  split
  · rfl
  · rw [add_zero]

/-- The sum of zeros. -/
theorem segSum_zero (batch : Fin 50000 → BitVec 32) (g : ℕ) : segSum batch (fun _ => 0) g = 0 :=
  Finset.sum_eq_zero fun _ _ => ite_self _

/-- Dividing by a positive number is multiplying by its reciprocal. -/
theorem div_mul (k : ℕ) (hk : 1 ≤ k) (s : EReal) : Ideal.div s ((k : ℝ) : EReal) = s * Ideal.div 1 ((k : ℝ) : EReal) := by
  have h : (k : ℝ) ≠ 0 := by positivity
  rw [Ideal.div_coe h, Ideal.div_coe h, one_mul]

/-- The mean of `k` values, each with a constant added. -/
theorem mean_add (k : ℕ) (hk : 1 ≤ k) (s b : EReal) :
    Ideal.div (s + k • b) ((k : ℝ) : EReal) = s * Ideal.div 1 ((k : ℝ) : EReal) + b := by
  have h : (k : ℝ) ≠ 0 := by positivity
  rw [Ideal.div_coe h, Ideal.div_coe h, one_mul,
    EReal.right_distrib_of_nonneg_of_ne_top (by exact_mod_cast (by positivity : (0 : ℝ) ≤ 1 / k)) (EReal.coe_ne_top _),
    EReal.nsmul_eq_mul, mul_right_comm, show ((k : EReal)) = ((k : ℝ) : EReal) from rfl, ← EReal.coe_mul, mul_one_div_cancel h,
    EReal.coe_one, one_mul]

/-- Eight terms against nine: the first, five more, and zeros. -/
theorem sum_eight_nine (K : Fin 8 → EReal) (R : Fin 9 → EReal) (h0 : K 0 = R 0)
    (h5 : ∀ k : Fin 5, K ⟨1 + k.val, by have := k.isLt; omega⟩ = R ⟨4 + k.val, by have := k.isLt; omega⟩)
    (hK : ∀ q : Fin 8, 6 ≤ q.val → K q = 0) (hR : ∀ q : Fin 9, q ≠ 0 → q.val < 4 → R q = 0) : ∑ q, K q = ∑ q, R q := by
  have e1 : K 1 = R 4 := h5 0
  have e2 : K 2 = R 5 := h5 1
  have e3 : K 3 = R 6 := h5 2
  have e4 : K 4 = R 7 := h5 3
  have e5 : K 5 = R 8 := h5 4
  rw [Fin.sum_univ_eight, Fin.sum_univ_castSucc, Fin.sum_univ_eight, hK 6 (by decide), hK 7 (by decide), h0, e1, e2, e3, e4, e5]
  show _ = R 0 + R 1 + R 2 + R 3 + R 4 + R 5 + R 6 + R 7 + R 8
  rw [hR 1 (by decide) (by decide), hR 2 (by decide) (by decide), hR 3 (by decide) (by decide)]
  simp only [add_zero]

end Cert.Stress

end
-- ==== Proof.Equal.lean ====
/- The kernel's result is the reference's, where the atom counts count the nodes. -/
module

public import proofs.«01_k».proof.Proof.IResult
public import proofs.«01_k».proof.Proof.RResult
public import proofs.«01_k».proof.Proof.PCount
public import proofs.«01_k».proof.Proof.Mean

@[expose] public section

set_option maxRecDepth 16384

noncomputable section

namespace Cert.KernelIdeal.Flow

open Cert.KernelIdeal Cert.KernelIdeal.Gen Cert.Stress Idealize.ShloMosaic Idealize.ShloMosaic.TcCoe

/-- Row 0 of the kernel's change of basis is the reference's. -/
theorem basis_zero (l : Fin 9) : basis 0 ⟨l.val, by have := l.isLt; omega⟩ = Cert.ReferenceIdeal.Read.basis 0 l := by
  fin_cases l <;> rfl

/-- Rows 1 to 5 are the reference's rows 4 to 8. -/
theorem basis_five (k : Fin 5) (l : Fin 9) : basis ⟨1 + k.val, by have := k.isLt; omega⟩ ⟨l.val, by have := l.isLt; omega⟩
    = Cert.ReferenceIdeal.Read.basis ⟨4 + k.val, by have := k.isLt; omega⟩ l := by
  fin_cases k <;> fin_cases l <;> rfl

variable (m : (ℓ : Loc nD τ sig) → Buf (Elt Ideal) ℓ)

/-- The reference's result at the kernel's arguments. -/
def refStress (c : Dev nD) : FVec Ideal S500x3x3 .f32 :=
  Cert.ReferenceIdeal.Read.stress (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- What the counts say: a graph's number of atoms is its number of nodes, and at least one. -/
def Counted (c : Dev nD) (g : Fin 500) : Prop :=
  1 ≤ segCount (graphOf m c) g.val ∧ atoms m c g = ((segCount (graphOf m c) g.val : ℝ) : EReal)

/-- The scalar's column: the mean of the nodes' scalars, the last bias included. -/
theorem iso_col (c : Dev nD) (g : Fin 500) (h : Counted m c g) :
    segSum (graphOf m c) (fun n => nodeVals m c n 0) g.val * Ideal.div 1 (atoms m c g) + lastBias m c 0
      = Cert.ReferenceIdeal.Read.iso (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (ix1 g) := by
  rw [Cert.ReferenceIdeal.Read.iso_apply]
  simp only [Cert.ReferenceIdeal.Read.scalars_apply]
  rw [segSum_add]
  refine Eq.symm (Eq.trans (congrArg (Ideal.div _) h.2) ?_)
  rw [h.2]
  exact mean_add _ h.1 _ _

/-- A node's feature at a plane. -/
def feature (c : Dev nD) (n : Fin 50000) (p : Fin 9) (l : Fin 128) : EReal := m ((c : Thread nD τ).loc main_arg0) (ix3 n p l)

/-- The products' weight. -/
def weight (c : Dev nD) (l : Fin 128) : EReal := m ((c : Thread nD τ).loc main_arg9) (ix3 2 0 l)

/-- A node's product, for the plane `4 + k`. -/
theorem prod_val (c : Dev nD) (n : Fin 50000) (k : Fin 5) :
    nodeVals m c n ⟨1 + k.val, by have := k.isLt; omega⟩
      = ∑ l : Fin 128, feature m c n ⟨4 + k.val, by have := k.isLt; omega⟩ l * weight m c l := by
  have hk := k.isLt
  have hp : ∀ k : Fin 5, planeOf ⟨1 + k.val, Nat.add_lt_add_left k.isLt 1⟩ = 4 + k.val := by decide
  unfold nodeVals vals
  rw [if_neg (by show ¬ 1 + k.val = 0; omega), dif_pos (by show 1 + k.val < 6; omega)]
  simp only [hp k]
  rfl

/-- A product's column: the mean of the nodes' products. -/
theorem aniso_col (c : Dev nD) (g : Fin 500) (k : Fin 5) (h : Counted m c g) :
    segSum (graphOf m c) (fun n => nodeVals m c n ⟨1 + k.val, by have := k.isLt; omega⟩) g.val * Ideal.div 1 (atoms m c g)
        + lastBias m c ⟨1 + k.val, by have := k.isLt; omega⟩
      = Cert.ReferenceIdeal.Read.aniso (m ((c : Thread nD τ).loc main_arg0)) (m ((c : Thread nD τ).loc main_arg1)) (m ((c : Thread nD τ).loc main_arg2))
          (m ((c : Thread nD τ).loc main_arg9)) (m ((c : Thread nD τ).loc main_arg10)) (ix2 g k) := by
  have hb : lastBias m c ⟨1 + k.val, by have := k.isLt; omega⟩ = 0 := if_neg (by show ¬ 1 + k.val = 0; omega)
  rw [hb, add_zero, Cert.ReferenceIdeal.Read.aniso_apply]
  simp only [Cert.ReferenceIdeal.Read.fives_apply]
  refine Eq.symm (Eq.trans (congrArg (Ideal.div _) h.2) ?_)
  have hv : (fun n => nodeVals m c n ⟨1 + k.val, by have := k.isLt; omega⟩) = _ := funext fun n => prod_val m c n k
  rw [h.2, hv]
  exact div_mul _ h.1 _

/-- The columns beyond the sixth. -/
theorem spare_col (c : Dev nD) (g : Fin 500) (q : Fin 8) (hq : 6 ≤ q.val) :
    segSum (graphOf m c) (fun n => nodeVals m c n q) g.val * Ideal.div 1 (atoms m c g) + lastBias m c q = 0 := by
  have hb : lastBias m c q = 0 := if_neg (by omega)
  have hv : (fun n => nodeVals m c n q) = fun _ => 0 := by
    funext n
    unfold nodeVals vals
    rw [if_neg (by omega), dif_neg (by omega)]
  rw [hb, add_zero, hv, segSum_zero, zero_mul]

/-- The kernel's result at an element is the reference's. -/
theorem res_stress (c : Dev nD) (g : Fin 500) (a b : Fin 3) (h : Counted m c g) :
    resAt m c g ⟨3 * a.val + b.val, by have := a.isLt; have := b.isLt; omega⟩ = refStress m c (ix3 g a b) := by
  unfold refStress Cert.ReferenceIdeal.Read.stress
  rw [Cert.ReferenceIdeal.Read.compose_apply]
  have hl : 3 * a.val + b.val < 9 := by have := a.isLt; have := b.isLt; omega
  refine sum_eight_nine _ _ ?_ (fun k => ?_) (fun q hq => ?_) (fun q h0 h4 => ?_)
  · rw [iso_col m c g h, Cert.ReferenceIdeal.Read.comps_zero]
    exact congrArg (_ * ·) (basis_zero ⟨3 * a.val + b.val, hl⟩)
  · rw [aniso_col m c g k h, Cert.ReferenceIdeal.Read.comps_last _ _ g k _ rfl]
    exact congrArg (_ * ·) (basis_five k ⟨3 * a.val + b.val, hl⟩)
  · rw [spare_col m c g q hq, zero_mul]
  · rw [Cert.ReferenceIdeal.Read.comps_mid _ _ g q h0 h4, zero_mul]

/-- The precondition gives the counts. -/
theorem counted_of (c : Dev nD) (g : Fin 500)
    (h : Cert.Pre_atoms_counted.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) = fun _ => 1#1) :
    Counted m c g := by
  obtain ⟨h1, h2, h3⟩ := Cert.Pre_atoms_counted.Read.count_eq _ _ _ _ _ _ _ _ _ _ _ g (congrFun h (ix1 g))
  refine ⟨h2, ?_⟩
  unfold atoms
  refine (congrArg (fun w : BitVec 32 => (FloatOps.sitofp .f32 w : Ideal .f32)) h1).trans ?_
  show (((BitVec.ofNat 32 (segCount (graphOf m c) g.val)).toInt : ℝ) : EReal) = _
  replace h3 : segCount (graphOf m c) g.val ≤ 50000 := h3
  rw [BitVec.toInt_eq_toNat_of_lt (by simp; omega), BitVec.toNat_ofNat, Nat.mod_eq_of_lt (by omega), Int.cast_natCast]

/-- Where the counts hold, the result buffer ends at the reference's result. -/
theorem result_eq (c : Dev nD) (h : ∀ g, Counted m c g) :
    Pipeline.afterTail₀ cfgs (dats m) 0 (V0 m) [hostOps1] c main_v28 = refStress m c := by
  funext j
  idx_vars j
  exact (tail_apply m c j0 j1 j2).trans (res_stress m c j0 j1 j2 (h j0))

end Cert.KernelIdeal.Flow

end
-- ==== Proof.lean ====
/- The claim, assembled from the frames of the kernel, of its ideal program and of the reference, and the equality of the results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KFrame
public import proofs.«01_k».proof.Proof.IFrame
public import proofs.«01_k».proof.Proof.RResult
public import proofs.«01_k».proof.Proof.PCount
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- Where the atoms are counted, the kernel's ideal program and the reference end with equal results. -/
theorem algebraic : Cert.algebraic_KernelIdeal_ReferenceIdeal_pre_atoms_counted (hKernelIdeal := Cert.KernelIdeal.Gen.facts)
    (hReferenceIdeal := Cert.ReferenceIdeal.Gen.facts) (hPre_atoms_counted := Cert.Pre_atoms_counted.Read.facts) := by
  intro m g m' g' hpre hargs
  refine ⟨fun c => Cert.KernelIdeal.Flow.refStress m c,
    (θ_run _ _ _).mono (fun r h c => ⟨(h c).1.trans (Cert.KernelIdeal.Flow.result_eq m c fun k =>
      Cert.KernelIdeal.Flow.counted_of m c k (hpre c)), (h c).2⟩) (Cert.KernelIdeal.Flow.run_result m g),
    (θ_run _ _ _).mono (fun r h c => ⟨(h c).1.trans ((Cert.ReferenceIdeal.Read.res_eq m' c).trans ?_), (h c).2⟩)
      (Cert.ReferenceIdeal.Value.run m' g')⟩
  obtain ⟨a0, a1, a2, a3, a4, a5, a6, a7, a8, a9, a10⟩ := hargs c
  unfold Cert.KernelIdeal.Flow.refStress
  congr 1

/-- Every claim of the certificate. -/
theorem claim : Cert.Claim :=
  ⟨Cert.Kernel.Gen.facts, Cert.KernelIdeal.Gen.facts, Cert.ReferenceIdeal.Gen.facts,
    Cert.Pre_atoms_counted.Read.facts,
    fun m ρ _ => Cert.Kernel.Flow.frame m ρ,
    fun m ρ _ => Cert.KernelIdeal.Flow.frame m ρ,
    fun m ρ _ => Cert.KernelIdeal.Flow.frame m ρ,
    fun m ρ _ => (θ_run _ _ _).mono (fun r h => ⟨fun c => (h c).2, sem_eq_zero_of_no_sems rfl r.2⟩) (Cert.ReferenceIdeal.Value.run m ρ),
    fun m ρ _ => (θ_run _ _ _).mono (fun r h => ⟨fun c => (h c).2, sem_eq_zero_of_no_sems rfl r.2⟩) (Cert.ReferenceIdeal.Value.run m ρ),
    trivial, algebraic⟩

end Cert.Proof

end
